-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1))
      ∧ r.2.sem = fun _ => 0)

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)) →
    ∃ (v0 : (c : Dev Cert.LruIdeal.nD) → Buf (Elt Ideal) ((c.tc : Thread Cert.LruIdeal.nD Cert.LruIdeal.τ).loc Cert.LruIdeal.main_v7)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v7) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v114) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v14) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) →
    ∃ (v0 : (c : Dev Cert.TailIdeal.nD) → Buf (Elt Ideal) ((c.tc : Thread Cert.TailIdeal.nD Cert.TailIdeal.τ).loc Cert.TailIdeal.main_v10)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v10) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v62) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v32) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)) →
    ∃ (v0 : (c : Dev Cert.FinIdeal.nD) → Buf (Elt Ideal) ((c.tc : Thread Cert.FinIdeal.nD Cert.FinIdeal.τ).loc Cert.FinIdeal.main_v1)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v1) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v12) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1))

def Claim : Prop :=
  ∃ (hLru : Cert.Lru.Facts) (hLruIdeal : Cert.LruIdeal.Facts) (hLruRefIdeal : Cert.LruRefIdeal.Facts) (hHead : Cert.Head.Facts) (hHeadIdeal : Cert.HeadIdeal.Facts) (hHeadRefIdeal : Cert.HeadRefIdeal.Facts) (hTail : Cert.Tail.Facts) (hTailIdeal : Cert.TailIdeal.Facts) (hTailRefIdeal : Cert.TailRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hNorm : Cert.Norm.Facts) (hNormIdeal : Cert.NormIdeal.Facts) (hNormRefIdeal : Cert.NormRefIdeal.Facts) (hFin : Cert.Fin.Facts) (hFinIdeal : Cert.FinIdeal.Facts) (hFinRefIdeal : Cert.FinRefIdeal.Facts),
    quiescent_Lru (hLru := hLru)
    ∧ quiescent_LruIdeal (hLruIdeal := hLruIdeal)
    ∧ quiescent_LruRefIdeal (hLruRefIdeal := hLruRefIdeal)
    ∧ quiescent_Head (hHead := hHead)
    ∧ quiescent_HeadIdeal (hHeadIdeal := hHeadIdeal)
    ∧ quiescent_HeadRefIdeal (hHeadRefIdeal := hHeadRefIdeal)
    ∧ quiescent_Tail (hTail := hTail)
    ∧ quiescent_TailIdeal (hTailIdeal := hTailIdeal)
    ∧ quiescent_TailRefIdeal (hTailRefIdeal := hTailRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Norm (hNorm := hNorm)
    ∧ quiescent_NormIdeal (hNormIdeal := hNormIdeal)
    ∧ quiescent_NormRefIdeal (hNormRefIdeal := hNormRefIdeal)
    ∧ quiescent_Fin (hFin := hFin)
    ∧ quiescent_FinIdeal (hFinIdeal := hFinIdeal)
    ∧ quiescent_FinRefIdeal (hFinRefIdeal := hFinRefIdeal)
    ∧ preserves_Lru_LruIdeal
    ∧ algebraic_LruIdeal_LruRefIdeal (hLruIdeal := hLruIdeal) (hLruRefIdeal := hLruRefIdeal)
    ∧ preserves_Head_HeadIdeal
    ∧ algebraic_HeadIdeal_HeadRefIdeal (hHeadIdeal := hHeadIdeal) (hHeadRefIdeal := hHeadRefIdeal)
    ∧ preserves_Tail_TailIdeal
    ∧ algebraic_TailIdeal_TailRefIdeal (hTailIdeal := hTailIdeal) (hTailRefIdeal := hTailRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Norm_NormIdeal
    ∧ algebraic_NormIdeal_NormRefIdeal (hNormIdeal := hNormIdeal) (hNormRefIdeal := hNormRefIdeal)
    ∧ preserves_Fin_FinIdeal
    ∧ algebraic_FinIdeal_FinRefIdeal (hFinIdeal := hFinIdeal) (hFinRefIdeal := hFinRefIdeal)
-- ==== Lru.lean ====
abbrev S16384x12288 : Shape := ⟨2, ![16384, 12288]⟩
abbrev S4x2048 : Shape := ⟨2, ![4, 2048]⟩
abbrev S2048 : Shape := ⟨1, ![2048]⟩
abbrev S16x128x128 : Shape := ⟨3, ![16, 128, 128]⟩
abbrev S16x128x256 : Shape := ⟨3, ![16, 128, 256]⟩
abbrev S1x2048 : Shape := ⟨2, ![1, 2048]⟩
abbrev S16384x2048 : Shape := ⟨2, ![16384, 2048]⟩
abbrev S256x2048 : Shape := ⟨2, ![256, 2048]⟩
abbrev S8x2048 : Shape := ⟨2, ![8, 2048]⟩
abbrev S264x2048 : Shape := ⟨2, ![264, 2048]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S16384x12288, .bf16⟩
  | .hbm, ⟨1, _⟩ => ⟨S4x2048, .f32⟩
  | .hbm, ⟨2, _⟩ => ⟨S2048, .f32⟩
  | .hbm, ⟨3, _⟩ => ⟨S16x128x128, .f32⟩
  | .hbm, ⟨4, _⟩ => ⟨S2048, .f32⟩
  | .hbm, ⟨5, _⟩ => ⟨S16x128x128, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S16x128x256, .f32⟩
  | .hbm, ⟨10, _⟩ => ⟨S16x128x256, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S4x2048, .f32⟩
  | .local _ .vmem, ⟨5, _⟩ => ⟨S1x2048, .f32⟩
  | .local _ .vmem, ⟨6, _⟩ => ⟨S16x128x256, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .bf16⟩
  | .local _ .vmem, ⟨12, _⟩ => ⟨S256x2048, .bf16⟩
  | .local _ .vmem, ⟨13, _⟩ => ⟨S8x2048, .f32⟩
  | .local _ .vmem, ⟨14, _⟩ => ⟨S8x2048, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LruRefIdeal.lean ====
abbrev S16384x12288 : Shape := ⟨2, ![16384, 12288]⟩
abbrev S4x2048 : Shape := ⟨2, ![4, 2048]⟩
abbrev S2048 : Shape := ⟨1, ![2048]⟩
abbrev S16x128x128 : Shape := ⟨3, ![16, 128, 128]⟩
abbrev S8x2048x12288 : Shape := ⟨3, ![8, 2048, 12288]⟩
abbrev S8x2048x2048 : Shape := ⟨3, ![8, 2048, 2048]⟩
abbrev S_ : Shape := ⟨0, ![]⟩
abbrev S8x2051x2048 : Shape := ⟨3, ![8, 2051, 2048]⟩
abbrev S1x2048 : Shape := ⟨2, ![1, 2048]⟩
abbrev S1x1x2048 : Shape := ⟨3, ![1, 1, 2048]⟩
abbrev S8x2048x16x128 : Shape := ⟨4, ![8, 2048, 16, 128]⟩
abbrev S16x128x8x2048 : Shape := ⟨4, ![16, 128, 8, 2048]⟩
abbrev S1 : Shape := ⟨1, ![1]⟩
abbrev S8x2048 : Shape := ⟨2, ![8, 2048]⟩
abbrev S2048x8x2048 : Shape := ⟨3, ![2048, 8, 2048]⟩
abbrev S1x8x2048 : Shape := ⟨3, ![1, 8, 2048]⟩
abbrev S8x2048x1 : Shape := ⟨3, ![8, 2048, 1]⟩
abbrev S16384x2048 : Shape := ⟨2, ![16384, 2048]⟩

abbrev nBuf : Space → Nat
  | .hbm => 179
  | .vmem => 0
  | .smem => 0
  | _ => 0

abbrev hbmTy0_0 (i : Nat) : BufTy := match i % 128 with
  | 0 => ⟨S16384x12288, .bf16⟩
  | 1 => ⟨S4x2048, .f32⟩
  | 2 => ⟨S2048, .f32⟩
  | 3 => ⟨S16x128x128, .f32⟩
  | 4 => ⟨S2048, .f32⟩
  | 5 => ⟨S16x128x128, .f32⟩
  | 6 => ⟨S2048, .f32⟩
  | 7 => ⟨S2048, .f32⟩
  | 8 => ⟨S2048, .f32⟩
  | 9 => ⟨S16384x12288, .f32⟩
  | 10 => ⟨S8x2048x12288, .f32⟩
  | 11 => ⟨S8x2048x2048, .f32⟩
  | 12 => ⟨S_, .i32⟩
  | 13 => ⟨S_, .f32⟩
  | 14 => ⟨S8x2051x2048, .f32⟩
  | 15 => ⟨S8x2048x2048, .f32⟩
  | 16 => ⟨S1x2048, .f32⟩
  | 17 => ⟨S2048, .f32⟩
  | 18 => ⟨S1x1x2048, .f32⟩
  | 19 => ⟨S8x2048x2048, .f32⟩
  | 20 => ⟨S8x2048x2048, .f32⟩
  | 21 => ⟨S1x1x2048, .f32⟩
  | 22 => ⟨S8x2048x2048, .f32⟩
  | 23 => ⟨S8x2048x2048, .f32⟩
  | 24 => ⟨S8x2048x2048, .f32⟩
  | 25 => ⟨S1x2048, .f32⟩
  | 26 => ⟨S2048, .f32⟩
  | 27 => ⟨S1x1x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S1x2048, .f32⟩
  | 33 => ⟨S2048, .f32⟩
  | 34 => ⟨S1x1x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S1x2048, .f32⟩
  | 40 => ⟨S2048, .f32⟩
  | 41 => ⟨S1x1x2048, .f32⟩
  | 42 => ⟨S8x2048x2048, .f32⟩
  | 43 => ⟨S8x2048x2048, .f32⟩
  | 44 => ⟨S8x2048x2048, .f32⟩
  | 45 => ⟨S8x2048x16x128, .f32⟩
  | 46 => ⟨S16x128x8x2048, .f32⟩
  | 47 => ⟨S8x2048x16x128, .f32⟩
  | 48 => ⟨S8x2048x2048, .f32⟩
  | 49 => ⟨S1x1x2048, .f32⟩
  | 50 => ⟨S8x2048x2048, .f32⟩
  | 51 => ⟨S8x2048x2048, .f32⟩
  | 52 => ⟨S8x2048x2048, .f32⟩
  | 53 => ⟨S8x2048x2048, .f32⟩
  | 54 => ⟨S_, .f32⟩
  | 55 => ⟨S8x2048x2048, .f32⟩
  | 56 => ⟨S8x2048x2048, .f32⟩
  | 57 => ⟨S_, .f32⟩
  | 58 => ⟨S8x2048x2048, .f32⟩
  | 59 => ⟨S8x2048x2048, .f32⟩
  | 60 => ⟨S16x128x8x2048, .f32⟩
  | 61 => ⟨S8x2048x16x128, .f32⟩
  | 62 => ⟨S8x2048x2048, .f32⟩
  | 63 => ⟨S1x1x2048, .f32⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S_, .f32⟩
  | 72 => ⟨S8x2048x2048, .f32⟩
  | 73 => ⟨S8x2048x2048, .f32⟩
  | 74 => ⟨S_, .f32⟩
  | 75 => ⟨S8x2048x2048, .f32⟩
  | 76 => ⟨S8x2048x2048, .f32⟩
  | 77 => ⟨S2048, .f32⟩
  | 78 => ⟨S_, .f32⟩
  | 79 => ⟨S2048, .f32⟩
  | 80 => ⟨S2048, .f32⟩
  | 81 => ⟨S2048, .f32⟩
  | 82 => ⟨S2048, .f32⟩
  | 83 => ⟨S2048, .i1⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S1x1x2048, .f32⟩
  | 93 => ⟨S8x2048x2048, .f32⟩
  | 94 => ⟨S8x2048x2048, .f32⟩
  | 95 => ⟨S8x2048x2048, .f32⟩
  | 96 => ⟨S_, .f32⟩
  | 97 => ⟨S8x2048x2048, .f32⟩
  | 98 => ⟨S8x2048x2048, .f32⟩
  | 99 => ⟨S8x2048x2048, .f32⟩
  | 100 => ⟨S8x2048x2048, .f32⟩
  | 101 => ⟨S8x2048x2048, .f32⟩
  | 102 => ⟨S_, .i32⟩
  | 103 => ⟨S1, .i32⟩
  | 104 => ⟨S_, .f32⟩
  | 105 => ⟨S8x2048, .f32⟩
  | 106 => ⟨S8x2048x2048, .f32⟩
  | 107 => ⟨S8x2048x2048, .f32⟩
  | 108 => ⟨S8x2048x2048, .f32⟩
  | 109 => ⟨S_, .f32⟩
  | 110 => ⟨S8x2048, .f32⟩
  | 111 => ⟨S2048x8x2048, .f32⟩
  | 112 => ⟨S2048x8x2048, .f32⟩
  | 113 => ⟨S_, .f32⟩
  | 114 => ⟨S2048x8x2048, .f32⟩
  | 115 => ⟨S_, .i32⟩
  | 116 => ⟨S2048x8x2048, .f32⟩
  | 117 => ⟨S2048x8x2048, .f32⟩
  | 118 => ⟨S_, .i32⟩
  | 119 => ⟨S8x2048, .f32⟩
  | 120 => ⟨S2048x8x2048, .f32⟩
  | 121 => ⟨S_, .i32⟩
  | 122 => ⟨S_, .i1⟩
  | 123 => ⟨S_, .i32⟩
  | 124 => ⟨S_, .i32⟩
  | 125 => ⟨S1x8x2048, .f32⟩
  | 126 => ⟨S8x2048, .f32⟩
  | 127 => ⟨S_, .i32⟩
  | _ => ⟨S16384x12288, .bf16⟩

abbrev hbmTy0_1 (i : Nat) : BufTy := match i % 128 with
  | 0 => ⟨S_, .i32⟩
  | 1 => ⟨S1x8x2048, .f32⟩
  | 2 => ⟨S8x2048, .f32⟩
  | 3 => ⟨S8x2048, .f32⟩
  | 4 => ⟨S8x2048, .f32⟩
  | 5 => ⟨S1x8x2048, .f32⟩
  | 6 => ⟨S_, .i32⟩
  | 7 => ⟨S_, .i32⟩
  | 8 => ⟨S2048x8x2048, .f32⟩
  | 9 => ⟨S_, .i32⟩
  | 10 => ⟨S_, .i32⟩
  | 11 => ⟨S8x2048x2048, .f32⟩
  | 12 => ⟨S16384x12288, .f32⟩
  | 13 => ⟨S8x2048x12288, .f32⟩
  | 14 => ⟨S8x2048x2048, .f32⟩
  | 15 => ⟨S8x2048x2048, .f32⟩
  | 16 => ⟨S8x2048x2048, .f32⟩
  | 17 => ⟨S_, .f32⟩
  | 18 => ⟨S8x2048x2048, .f32⟩
  | 19 => ⟨S8x2048x2048, .f32⟩
  | 20 => ⟨S8x2048x2048, .f32⟩
  | 21 => ⟨S_, .f32⟩
  | 22 => ⟨S8x2048x2048, .f32⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S_, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S_, .f32⟩
  | 35 => ⟨S8x2048, .f32⟩
  | 36 => ⟨S8x2048x1, .f32⟩
  | 37 => ⟨S_, .f32⟩
  | 38 => ⟨S8x2048x1, .f32⟩
  | 39 => ⟨S8x2048x1, .f32⟩
  | 40 => ⟨S_, .f32⟩
  | 41 => ⟨S8x2048x1, .f32⟩
  | 42 => ⟨S8x2048x1, .f32⟩
  | 43 => ⟨S8x2048x1, .f32⟩
  | 44 => ⟨S8x2048x2048, .f32⟩
  | 45 => ⟨S8x2048x2048, .f32⟩
  | 46 => ⟨S1x1x2048, .f32⟩
  | 47 => ⟨S8x2048x2048, .f32⟩
  | 48 => ⟨S8x2048x2048, .f32⟩
  | 49 => ⟨S16384x2048, .f32⟩
  | 50 => ⟨S16384x2048, .bf16⟩
  | _ => ⟨S16384x12288, .bf16⟩

abbrev hbmTy (i : Nat) : BufTy := match i / 128 with
  | 0 => hbmTy0_0 i
  | 1 => hbmTy0_1 i
  | _ => ⟨S16384x12288, .bf16⟩

abbrev bufTy : (tb : Table) → Fin (tcTables nBuf tb) → BufTy
  | .hbm, ⟨i, _⟩ => hbmTy i
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_1 : Ref sig .tc := ⟨.hbm, 68, rfl⟩
abbrev main_v55 : Ref sig .tc := ⟨.hbm, 69, rfl⟩
abbrev main_v56 : Ref sig .tc := ⟨.hbm, 70, rfl⟩
abbrev main_cst_2 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_4 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_5 : Ref sig .tc := ⟨.hbm, 102, rfl⟩
abbrev main_v72 : Ref sig .tc := ⟨.hbm, 103, rfl⟩
abbrev main_cst_6 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_7 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_8 : Ref sig .tc := ⟨.hbm, 113, rfl⟩
abbrev main_v80 : Ref sig .tc := ⟨.hbm, 114, rfl⟩
abbrev main_c_9 : Ref sig .tc := ⟨.hbm, 115, rfl⟩
abbrev main_v81_0 : Ref sig .tc := ⟨.hbm, 116, rfl⟩
abbrev main_v81_1 : Ref sig .tc := ⟨.hbm, 117, rfl⟩
abbrev main_v81_2 : Ref sig .tc := ⟨.hbm, 118, rfl⟩
abbrev main_v81_3 : Ref sig .tc := ⟨.hbm, 119, rfl⟩
abbrev main_v81_4 : Ref sig .tc := ⟨.hbm, 120, rfl⟩
abbrev main_while0c_c_21 : Ref sig .tc := ⟨.hbm, 121, rfl⟩
abbrev main_while0c_v115 : Ref sig .tc := ⟨.hbm, 122, rfl⟩
abbrev main_while0b_call2_c : Ref sig .tc := ⟨.hbm, 123, rfl⟩
abbrev main_while0b_call2_c_0 : Ref sig .tc := ⟨.hbm, 124, rfl⟩
abbrev main_while0b_call2_v0 : Ref sig .tc := ⟨.hbm, 125, rfl⟩
abbrev main_while0b_v115 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_call3_v0 : Ref sig .tc := ⟨.hbm, 129, rfl⟩
abbrev main_while0b_v116 : Ref sig .tc := ⟨.hbm, 130, rfl⟩
abbrev main_while0b_v117 : Ref sig .tc := ⟨.hbm, 131, rfl⟩
abbrev main_while0b_v118 : Ref sig .tc := ⟨.hbm, 132, rfl⟩
abbrev main_while0b_call4_v0 : Ref sig .tc := ⟨.hbm, 133, rfl⟩
abbrev main_while0b_call4_c : Ref sig .tc := ⟨.hbm, 134, rfl⟩
abbrev main_while0b_call4_c_0 : Ref sig .tc := ⟨.hbm, 135, rfl⟩
abbrev main_while0b_v119 : Ref sig .tc := ⟨.hbm, 136, rfl⟩
abbrev main_while0b_c_21 : Ref sig .tc := ⟨.hbm, 137, rfl⟩
abbrev main_while0b_v120 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_10 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_11 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_12 : Ref sig .tc := ⟨.hbm, 153, rfl⟩
abbrev main_v94 : Ref sig .tc := ⟨.hbm, 154, rfl⟩
abbrev main_v95 : Ref sig .tc := ⟨.hbm, 155, rfl⟩
abbrev main_cst_13 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_14 : Ref sig .tc := ⟨.hbm, 162, rfl⟩
abbrev main_v101 : Ref sig .tc := ⟨.hbm, 163, rfl⟩
abbrev main_v102 : Ref sig .tc := ⟨.hbm, 164, rfl⟩
abbrev main_cst_15 : Ref sig .tc := ⟨.hbm, 165, rfl⟩
abbrev main_v103 : Ref sig .tc := ⟨.hbm, 166, rfl⟩
abbrev main_v104 : Ref sig .tc := ⟨.hbm, 167, rfl⟩
abbrev main_cst_16 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩

abbrev nD : Nat := 1
abbrev τ : Topo := Topo.v7x

variable {F : FTy → Type} [FloatOps F]

abbrev main_while0_count : Scf.Loop 32 := ⟨0#32, 2048#32, 1#32⟩
-- ==== Head.lean ====
abbrev S16384x4096 : Shape := ⟨2, ![16384, 4096]⟩
abbrev S4096 : Shape := ⟨1, ![4096]⟩
abbrev S4096x12288 : Shape := ⟨2, ![4096, 12288]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .f32⟩
  | .hbm, ⟨3, _⟩ => ⟨S1x4096, .f32⟩
  | .hbm, ⟨4, _⟩ => ⟨S16384x4096, .bf16⟩
  | .hbm, ⟨5, _⟩ => ⟨S4096x12288, .bf16⟩
  | .hbm, ⟨6, _⟩ => ⟨S16384x12288, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .bf16⟩
  | .local _ .vmem, ⟨10, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== HeadRefIdeal.lean ====
abbrev S16384x4096 : Shape := ⟨2, ![16384, 4096]⟩
abbrev S4096 : Shape := ⟨1, ![4096]⟩
abbrev S4096x12288 : Shape := ⟨2, ![4096, 12288]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x12288 : Shape := ⟨2, ![16384, 12288]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x12288, .f32⟩
  | .hbm, ⟨20, _⟩ => ⟨S16384x12288, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Tail.lean ====
abbrev S16384x2048 : Shape := ⟨2, ![16384, 2048]⟩
abbrev S4096x4096 : Shape := ⟨2, ![4096, 4096]⟩
abbrev S16384x4096 : Shape := ⟨2, ![16384, 4096]⟩
abbrev S4096 : Shape := ⟨1, ![4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S512x2048 : Shape := ⟨2, ![512, 2048]⟩
abbrev S2048x1024 : Shape := ⟨2, ![2048, 1024]⟩
abbrev S512x1024 : Shape := ⟨2, ![512, 1024]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S1x22016 : Shape := ⟨2, ![1, 22016]⟩
abbrev S16384x11008 : Shape := ⟨2, ![16384, 11008]⟩
abbrev S2048x4096 : Shape := ⟨2, ![2048, 4096]⟩
abbrev S4096x256 : Shape := ⟨2, ![4096, 256]⟩
abbrev S3x256 : Shape := ⟨2, ![3, 256]⟩
abbrev S1x256 : Shape := ⟨2, ![1, 256]⟩
abbrev S2048x256 : Shape := ⟨2, ![2048, 256]⟩
abbrev S4096x512 : Shape := ⟨2, ![4096, 512]⟩
abbrev S3x512 : Shape := ⟨2, ![3, 512]⟩
abbrev S1x512 : Shape := ⟨2, ![1, 512]⟩
abbrev S8x512 : Shape := ⟨2, ![8, 512]⟩
abbrev S256x4096 : Shape := ⟨2, ![256, 4096]⟩
abbrev S256x512 : Shape := ⟨2, ![256, 512]⟩
abbrev S264x512 : Shape := ⟨2, ![264, 512]⟩
abbrev S256x256 : Shape := ⟨2, ![256, 256]⟩
abbrev S256x11008 : Shape := ⟨2, ![256, 11008]⟩
abbrev S11008x1024 : Shape := ⟨2, ![11008, 1024]⟩
abbrev S256x1024 : Shape := ⟨2, ![256, 1024]⟩

abbrev nBuf : Space → Nat
  | .hbm => 21
  | .vmem => 44
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096, .f32⟩
  | .hbm, ⟨5, _⟩ => ⟨S4096x22016, .f32⟩
  | .hbm, ⟨6, _⟩ => ⟨S3x22016, .f32⟩
  | .hbm, ⟨7, _⟩ => ⟨S22016, .f32⟩
  | .hbm, ⟨8, _⟩ => ⟨S11008x4096, .f32⟩
  | .hbm, ⟨9, _⟩ => ⟨S4096, .f32⟩
  | .hbm, ⟨10, _⟩ => ⟨S4096x4096, .bf16⟩
  | .hbm, ⟨11, _⟩ => ⟨S16384x4096, .f32⟩
  | .hbm, ⟨12, _⟩ => ⟨S1x4096, .f32⟩
  | .hbm, ⟨13, _⟩ => ⟨S16384x4096, .bf16⟩
  | .hbm, ⟨14, _⟩ => ⟨S4096x22016, .bf16⟩
  | .hbm, ⟨15, _⟩ => ⟨S1x22016, .f32⟩
  | .hbm, ⟨16, _⟩ => ⟨S16384x11008, .bf16⟩
  | .hbm, ⟨17, _⟩ => ⟨S11008x4096, .bf16⟩
  | .hbm, ⟨18, _⟩ => ⟨S16384x4096, .f32⟩
  | .hbm, ⟨19, _⟩ => ⟨S1x4096, .f32⟩
  | .hbm, ⟨20, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x4096, .f32⟩
  | .local _ .vmem, ⟨13, _⟩ => ⟨S512x4096, .f32⟩
  | .local _ .vmem, ⟨14, _⟩ => ⟨S1x4096, .f32⟩
  | .local _ .vmem, ⟨15, _⟩ => ⟨S512x4096, .bf16⟩
  | .local _ .vmem, ⟨16, _⟩ => ⟨S512x4096, .bf16⟩
  | .local _ .vmem, ⟨17, _⟩ => ⟨S2048x4096, .bf16⟩
  | .local _ .vmem, ⟨18, _⟩ => ⟨S4096x256, .bf16⟩
  | .local _ .vmem, ⟨19, _⟩ => ⟨S4096x256, .bf16⟩
  | .local _ .vmem, ⟨20, _⟩ => ⟨S4096x256, .bf16⟩
  | .local _ .vmem, ⟨21, _⟩ => ⟨S4096x256, .bf16⟩
  | .local _ .vmem, ⟨22, _⟩ => ⟨S3x256, .f32⟩
  | .local _ .vmem, ⟨23, _⟩ => ⟨S3x256, .f32⟩
  | .local _ .vmem, ⟨24, _⟩ => ⟨S3x256, .f32⟩
  | .local _ .vmem, ⟨25, _⟩ => ⟨S3x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S2048x256, .bf16⟩
  | .local _ .vmem, ⟨31, _⟩ => ⟨S2048x256, .bf16⟩
  | .local _ .vmem, ⟨32, _⟩ => ⟨S256x11008, .bf16⟩
  | .local _ .vmem, ⟨33, _⟩ => ⟨S256x11008, .bf16⟩
  | .local _ .vmem, ⟨34, _⟩ => ⟨S11008x1024, .bf16⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S512x4096, .f32⟩
  | .local _ .vmem, ⟨40, _⟩ => ⟨S512x4096, .f32⟩
  | .local _ .vmem, ⟨41, _⟩ => ⟨S1x4096, .f32⟩
  | .local _ .vmem, ⟨42, _⟩ => ⟨S512x4096, .f32⟩
  | .local _ .vmem, ⟨43, _⟩ => ⟨S512x4096, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg2_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem2_1 : DmaSem sig := 36
abbrev cc3_sem3_0 : DmaSem sig := 37
abbrev cc3_sem3_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem2_1 : DmaSem sig := 43

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S3x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S3x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S2048x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![4, 64], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x11008 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S11008x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== TailRefIdeal.lean ====
abbrev S16384x2048 : Shape := ⟨2, ![16384, 2048]⟩
abbrev S4096x4096 : Shape := ⟨2, ![4096, 4096]⟩
abbrev S16384x4096 : Shape := ⟨2, ![16384, 4096]⟩
abbrev S4096 : Shape := ⟨1, ![4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S8x2048x4096 : Shape := ⟨3, ![8, 2048, 4096]⟩
abbrev S8x2048x22016 : Shape := ⟨3, ![8, 2048, 22016]⟩
abbrev S8x2050x22016 : Shape := ⟨3, ![8, 2050, 22016]⟩
abbrev S1x22016 : Shape := ⟨2, ![1, 22016]⟩
abbrev S1x1x22016 : Shape := ⟨3, ![1, 1, 22016]⟩
abbrev S8x2048x11008 : Shape := ⟨3, ![8, 2048, 11008]⟩
abbrev S16384x11008 : Shape := ⟨2, ![16384, 11008]⟩

abbrev nBuf : Space → Nat
  | .hbm => 89
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096, .f32⟩
  | .hbm, ⟨5, _⟩ => ⟨S4096x22016, .f32⟩
  | .hbm, ⟨6, _⟩ => ⟨S3x22016, .f32⟩
  | .hbm, ⟨7, _⟩ => ⟨S22016, .f32⟩
  | .hbm, ⟨8, _⟩ => ⟨S11008x4096, .f32⟩
  | .hbm, ⟨9, _⟩ => ⟨S4096, .f32⟩
  | .hbm, ⟨10, _⟩ => ⟨S16384x4096, .bf16⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x4096, .f32⟩
  | .hbm, ⟨26, _⟩ => ⟨S16384x4096, .f32⟩
  | .hbm, ⟨27, _⟩ => ⟨S1x4096, .f32⟩
  | .hbm, ⟨28, _⟩ => ⟨S16384x4096, .f32⟩
  | .hbm, ⟨29, _⟩ => ⟨S16384x4096, .f32⟩
  | .hbm, ⟨30, _⟩ => ⟨S8x2048x4096, .f32⟩
  | .hbm, ⟨31, _⟩ => ⟨S8x2048x22016, .f32⟩
  | .hbm, ⟨32, _⟩ => ⟨S_, .i32⟩
  | .hbm, ⟨33, _⟩ => ⟨S_, .f32⟩
  | .hbm, ⟨34, _⟩ => ⟨S8x2050x22016, .f32⟩
  | .hbm, ⟨35, _⟩ => ⟨S8x2048x22016, .f32⟩
  | .hbm, ⟨36, _⟩ => ⟨S1x22016, .f32⟩
  | .hbm, ⟨37, _⟩ => ⟨S22016, .f32⟩
  | .hbm, ⟨38, _⟩ => ⟨S1x1x22016, .f32⟩
  | .hbm, ⟨39, _⟩ => ⟨S8x2048x22016, .f32⟩
  | .hbm, ⟨40, _⟩ => ⟨S8x2048x22016, .f32⟩
  | .hbm, ⟨41, _⟩ => ⟨S1x1x22016, .f32⟩
  | .hbm, ⟨42, _⟩ => ⟨S8x2048x22016, .f32⟩
  | .hbm, ⟨43, _⟩ => ⟨S8x2048x22016, .f32⟩
  | .hbm, ⟨44, _⟩ => ⟨S8x2048x22016, .f32⟩
  | .hbm, ⟨45, _⟩ => ⟨S1x22016, .f32⟩
  | .hbm, ⟨46, _⟩ => ⟨S22016, .f32⟩
  | .hbm, ⟨47, _⟩ => ⟨S1x1x22016, .f32⟩
  | .hbm, ⟨48, _⟩ => ⟨S8x2048x22016, .f32⟩
  | .hbm, ⟨49, _⟩ => ⟨S8x2048x22016, .f32⟩
  | .hbm, ⟨50, _⟩ => ⟨S8x2048x22016, .f32⟩
  | .hbm, ⟨51, _⟩ => ⟨S8x2048x22016, .f32⟩
  | .hbm, ⟨52, _⟩ => ⟨S1x22016, .f32⟩
  | .hbm, ⟨53, _⟩ => ⟨S22016, .f32⟩
  | .hbm, ⟨54, _⟩ => ⟨S1x1x22016, .f32⟩
  | .hbm, ⟨55, _⟩ => ⟨S8x2048x22016, .f32⟩
  | .hbm, ⟨56, _⟩ => ⟨S8x2048x22016, .f32⟩
  | .hbm, ⟨57, _⟩ => ⟨S8x2048x22016, .f32⟩
  | .hbm, ⟨58, _⟩ => ⟨S8x2048x11008, .f32⟩
  | .hbm, ⟨59, _⟩ => ⟨S8x2048x11008, .f32⟩
  | .hbm, ⟨60, _⟩ => ⟨S8x2048x11008, .f32⟩
  | .hbm, ⟨61, _⟩ => ⟨S8x2048x11008, .f32⟩
  | .hbm, ⟨62, _⟩ => ⟨S_, .f32⟩
  | .hbm, ⟨63, _⟩ => ⟨S8x2048x11008, .f32⟩
  | .hbm, ⟨64, _⟩ => ⟨S8x2048x11008, .f32⟩
  | .hbm, ⟨65, _⟩ => ⟨S_, .f32⟩
  | .hbm, ⟨66, _⟩ => ⟨S8x2048x11008, .f32⟩
  | .hbm, ⟨67, _⟩ => ⟨S8x2048x11008, .f32⟩
  | .hbm, ⟨68, _⟩ => ⟨S8x2048x11008, .f32⟩
  | .hbm, ⟨69, _⟩ => ⟨S8x2048x11008, .f32⟩
  | .hbm, ⟨70, _⟩ => ⟨S16384x11008, .f32⟩
  | .hbm, ⟨71, _⟩ => ⟨S16384x4096, .f32⟩
  | .hbm, ⟨72, _⟩ => ⟨S16384x4096, .f32⟩
  | .hbm, ⟨73, _⟩ => ⟨S16384x4096, .f32⟩
  | .hbm, ⟨74, _⟩ => ⟨S_, .f32⟩
  | .hbm, ⟨75, _⟩ => ⟨S16384, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1, .f32⟩
  | .hbm, ⟨84, _⟩ => ⟨S16384x4096, .f32⟩
  | .hbm, ⟨85, _⟩ => ⟨S16384x4096, .f32⟩
  | .hbm, ⟨86, _⟩ => ⟨S1x4096, .f32⟩
  | .hbm, ⟨87, _⟩ => ⟨S16384x4096, .f32⟩
  | .hbm, ⟨88, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_2 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_cst_4 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== In.lean ====
abbrev S16384x4096 : Shape := ⟨2, ![16384, 4096]⟩
abbrev S4096x12288 : Shape := ⟨2, ![4096, 12288]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .f32⟩
  | .hbm, ⟨2, _⟩ => ⟨S4096x12288, .bf16⟩
  | .hbm, ⟨3, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S16384x4096 : Shape := ⟨2, ![16384, 4096]⟩
abbrev S4096x12288 : Shape := ⟨2, ![4096, 12288]⟩
abbrev S16384x12288 : Shape := ⟨2, ![16384, 12288]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .f32⟩
  | .hbm, ⟨2, _⟩ => ⟨S16384x4096, .f32⟩
  | .hbm, ⟨3, _⟩ => ⟨S16384x12288, .f32⟩
  | .hbm, ⟨4, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S16384x2048 : Shape := ⟨2, ![16384, 2048]⟩
abbrev S4096x4096 : Shape := ⟨2, ![4096, 4096]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096x4096, .bf16⟩
  | .hbm, ⟨5, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S16384x4096, .f32⟩
  | .hbm, ⟨7, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Up.lean ====
abbrev S16384x4096 : Shape := ⟨2, ![16384, 4096]⟩
abbrev S4096x22016 : Shape := ⟨2, ![4096, 22016]⟩
abbrev S3x22016 : Shape := ⟨2, ![3, 22016]⟩
abbrev S22016 : Shape := ⟨1, ![22016]⟩
abbrev S1x22016 : Shape := ⟨2, ![1, 22016]⟩
abbrev S16384x11008 : Shape := ⟨2, ![16384, 11008]⟩
abbrev S2048x4096 : Shape := ⟨2, ![2048, 4096]⟩
abbrev S4096x256 : Shape := ⟨2, ![4096, 256]⟩
abbrev S3x256 : Shape := ⟨2, ![3, 256]⟩
abbrev S1x256 : Shape := ⟨2, ![1, 256]⟩
abbrev S2048x256 : Shape := ⟨2, ![2048, 256]⟩
abbrev S4096x512 : Shape := ⟨2, ![4096, 512]⟩
abbrev S3x512 : Shape := ⟨2, ![3, 512]⟩
abbrev S1x512 : Shape := ⟨2, ![1, 512]⟩
abbrev S8x512 : Shape := ⟨2, ![8, 512]⟩
abbrev S256x4096 : Shape := ⟨2, ![256, 4096]⟩
abbrev S256x512 : Shape := ⟨2, ![256, 512]⟩
abbrev S264x512 : Shape := ⟨2, ![264, 512]⟩
abbrev S256x256 : Shape := ⟨2, ![256, 256]⟩

abbrev nBuf : Space → Nat
  | .hbm => 7
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S4096x22016, .bf16⟩
  | .hbm, ⟨5, _⟩ => ⟨S1x22016, .f32⟩
  | .hbm, ⟨6, _⟩ => ⟨S16384x11008, .bf16⟩
  | .local _ .vmem, ⟨0, _⟩ => ⟨S2048x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2048x256, .bf16⟩
  | .local _ .vmem, ⟨14, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S16384x4096 : Shape := ⟨2, ![16384, 4096]⟩
abbrev S4096x22016 : Shape := ⟨2, ![4096, 22016]⟩
abbrev S3x22016 : Shape := ⟨2, ![3, 22016]⟩
abbrev S22016 : Shape := ⟨1, ![22016]⟩
abbrev S8x2048x4096 : Shape := ⟨3, ![8, 2048, 4096]⟩
abbrev S8x2048x22016 : Shape := ⟨3, ![8, 2048, 22016]⟩
abbrev S_ : Shape := ⟨0, ![]⟩
abbrev S8x2050x22016 : Shape := ⟨3, ![8, 2050, 22016]⟩
abbrev S1x22016 : Shape := ⟨2, ![1, 22016]⟩
abbrev S1x1x22016 : Shape := ⟨3, ![1, 1, 22016]⟩
abbrev S8x2048x11008 : Shape := ⟨3, ![8, 2048, 11008]⟩
abbrev S16384x11008 : Shape := ⟨2, ![16384, 11008]⟩

abbrev nBuf : Space → Nat
  | .hbm => 47
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S16384x4096, .f32⟩
  | .hbm, ⟨5, _⟩ => ⟨S8x2048x4096, .f32⟩
  | .hbm, ⟨6, _⟩ => ⟨S8x2048x22016, .f32⟩
  | .hbm, ⟨7, _⟩ => ⟨S_, .i32⟩
  | .hbm, ⟨8, _⟩ => ⟨S_, .f32⟩
  | .hbm, ⟨9, _⟩ => ⟨S8x2050x22016, .f32⟩
  | .hbm, ⟨10, _⟩ => ⟨S8x2048x22016, .f32⟩
  | .hbm, ⟨11, _⟩ => ⟨S1x22016, .f32⟩
  | .hbm, ⟨12, _⟩ => ⟨S22016, .f32⟩
  | .hbm, ⟨13, _⟩ => ⟨S1x1x22016, .f32⟩
  | .hbm, ⟨14, _⟩ => ⟨S8x2048x22016, .f32⟩
  | .hbm, ⟨15, _⟩ => ⟨S8x2048x22016, .f32⟩
  | .hbm, ⟨16, _⟩ => ⟨S1x1x22016, .f32⟩
  | .hbm, ⟨17, _⟩ => ⟨S8x2048x22016, .f32⟩
  | .hbm, ⟨18, _⟩ => ⟨S8x2048x22016, .f32⟩
  | .hbm, ⟨19, _⟩ => ⟨S8x2048x22016, .f32⟩
  | .hbm, ⟨20, _⟩ => ⟨S1x22016, .f32⟩
  | .hbm, ⟨21, _⟩ => ⟨S22016, .f32⟩
  | .hbm, ⟨22, _⟩ => ⟨S1x1x22016, .f32⟩
  | .hbm, ⟨23, _⟩ => ⟨S8x2048x22016, .f32⟩
  | .hbm, ⟨24, _⟩ => ⟨S8x2048x22016, .f32⟩
  | .hbm, ⟨25, _⟩ => ⟨S8x2048x22016, .f32⟩
  | .hbm, ⟨26, _⟩ => ⟨S8x2048x22016, .f32⟩
  | .hbm, ⟨27, _⟩ => ⟨S1x22016, .f32⟩
  | .hbm, ⟨28, _⟩ => ⟨S22016, .f32⟩
  | .hbm, ⟨29, _⟩ => ⟨S1x1x22016, .f32⟩
  | .hbm, ⟨30, _⟩ => ⟨S8x2048x22016, .f32⟩
  | .hbm, ⟨31, _⟩ => ⟨S8x2048x22016, .f32⟩
  | .hbm, ⟨32, _⟩ => ⟨S8x2048x22016, .f32⟩
  | .hbm, ⟨33, _⟩ => ⟨S8x2048x11008, .f32⟩
  | .hbm, ⟨34, _⟩ => ⟨S8x2048x11008, .f32⟩
  | .hbm, ⟨35, _⟩ => ⟨S8x2048x11008, .f32⟩
  | .hbm, ⟨36, _⟩ => ⟨S8x2048x11008, .f32⟩
  | .hbm, ⟨37, _⟩ => ⟨S_, .f32⟩
  | .hbm, ⟨38, _⟩ => ⟨S8x2048x11008, .f32⟩
  | .hbm, ⟨39, _⟩ => ⟨S8x2048x11008, .f32⟩
  | .hbm, ⟨40, _⟩ => ⟨S_, .f32⟩
  | .hbm, ⟨41, _⟩ => ⟨S8x2048x11008, .f32⟩
  | .hbm, ⟨42, _⟩ => ⟨S8x2048x11008, .f32⟩
  | .hbm, ⟨43, _⟩ => ⟨S8x2048x11008, .f32⟩
  | .hbm, ⟨44, _⟩ => ⟨S8x2048x11008, .f32⟩
  | .hbm, ⟨45, _⟩ => ⟨S16384x11008, .f32⟩
  | .hbm, ⟨46, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Down.lean ====
abbrev S16384x11008 : Shape := ⟨2, ![16384, 11008]⟩
abbrev S11008x4096 : Shape := ⟨2, ![11008, 4096]⟩
abbrev S16384x4096 : Shape := ⟨2, ![16384, 4096]⟩
abbrev S256x11008 : Shape := ⟨2, ![256, 11008]⟩
abbrev S11008x1024 : Shape := ⟨2, ![11008, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S11008x4096, .bf16⟩
  | .hbm, ⟨4, _⟩ => ⟨S16384x4096, .f32⟩
  | .local _ .vmem, ⟨0, _⟩ => ⟨S256x11008, .bf16⟩
  | .local _ .vmem, ⟨1, _⟩ => ⟨S256x11008, .bf16⟩
  | .local _ .vmem, ⟨2, _⟩ => ⟨S11008x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S11008x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16384x11008, .f32⟩
  | .hbm, ⟨4, _⟩ => ⟨S16384x4096, .f32⟩
  | .hbm, ⟨5, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Fin.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.LruMath.lean ====
/- The recurrence h ↦ a h + u by doubling, and the closed forms of the gates, on extended reals. -/
module

public import Idealize.ShloMosaic.Lib.Pointwise
public import Mathlib.Analysis.Complex.Trigonometric
public import Mathlib.Tactic.FieldSimp
public import Mathlib.Tactic.Ring
public import Mathlib.Tactic.Positivity
public import Mathlib.Tactic.Linarith

@[expose] public section

noncomputable section

namespace Cert.LruMath

open Idealize.ShloMosaic

/-! ## The recurrence -/

/-- The maps `x ↦ a i * x + u i` of the `n` rows from row `s` on, one after the other. -/
def go (a u : ℕ → EReal) (s : ℕ) : ℕ → EReal → EReal
  | 0, x => x
  | n + 1, x => a (s + n) * go a u s n x + u (s + n)

theorem go_add (a u : ℕ → EReal) (s n : ℕ) : ∀ (k : ℕ) (x : EReal), go a u s (n + k) x = go a u (s + n) k (go a u s n x)
  | 0, _ => rfl
  | k + 1, x => by
    show a (s + (n + k)) * go a u s (n + k) x + u (s + (n + k)) = a (s + n + k) * _ + u (s + n + k)
    rw [go_add a u s n k x, Nat.add_assoc]

/-- Rows that agree give the same maps. -/
theorem go_congr {a u a' u' : ℕ → EReal} {s s' : ℕ} (x : EReal) : ∀ {n : ℕ},
    (∀ i, i < n → a (s + i) = a' (s' + i) ∧ u (s + i) = u' (s' + i)) → go a u s n x = go a' u' s' n x
  | 0, _ => rfl
  | n + 1, h => by
    show a (s + n) * go a u s n x + u (s + n) = a' (s' + n) * go a' u' s' n x + u' (s' + n)
    rw [go_congr x fun i hi => h i (Nat.lt_succ_of_lt hi), (h n (Nat.lt_succ_self n)).1, (h n (Nat.lt_succ_self n)).2]

/-- A factor of the recurrence lies between zero and one. -/
def Unit01 (x : EReal) : Prop := 0 ≤ x ∧ x ≤ 1

theorem Unit01.ne_top {x : EReal} (h : Unit01 x) : x ≠ ⊤ :=
  fun e => absurd (e ▸ h.2) (not_le.mpr (EReal.coe_lt_top 1))

theorem Unit01.mul {x y : EReal} (hx : Unit01 x) (hy : Unit01 y) : Unit01 (x * y) :=
  ⟨mul_nonneg hx.1 hy.1, mul_le_one₀ hx.2 hy.1 hy.2⟩

theorem Unit01.distrib {x : EReal} (h : Unit01 x) (y z : EReal) : x * (y + z) = x * y + x * z :=
  EReal.left_distrib_of_nonneg_of_ne_top h.1 h.ne_top y z

/-- The factor and the summand of one row stand for the last `d` maps that end at the row, or for all of them
    where there are fewer. -/
structure Stands (a u A U : ℕ → EReal) (N d : ℕ) : Prop where
  unit : ∀ i, i < N → Unit01 (A i)
  run : ∀ i, i < N → ∀ x, A i * x + U i = go a u (i + 1 - min d (i + 1)) (min d (i + 1)) x

theorem Stands.one {a u : ℕ → EReal} {N : ℕ} (h : ∀ i, i < N → Unit01 (a i)) : Stands a u a u N 1 where
  unit := h
  run i _ x := by
    rw [Nat.min_eq_left (by omega : 1 ≤ i + 1), Nat.add_sub_cancel]
    rfl

/-- One level of the doubling: each row takes in the row `d` above it. -/
theorem Stands.double {a u A U A' U' : ℕ → EReal} {N d : ℕ} (h : Stands a u A U N d)
    (hA : ∀ i, i < N → A' i = A i * (if i < d then 1 else A (i - d)))
    (hU : ∀ i, i < N → U' i = A i * (if i < d then 0 else U (i - d)) + U i) : Stands a u A' U' N (d + d) where
  unit i hi := by
    rw [hA i hi]
    by_cases hd : i < d
    · rw [if_pos hd, mul_one]; exact h.unit i hi
    · rw [if_neg hd]; exact (h.unit i hi).mul (h.unit (i - d) (by omega))
  run i hi x := by
    rw [hA i hi, hU i hi]
    by_cases hd : i < d
    · rw [if_pos hd, if_pos hd, mul_one, mul_zero, zero_add, h.run i hi, Nat.min_eq_right (by omega : i + 1 ≤ d),
        Nat.min_eq_right (by omega : i + 1 ≤ d + d)]
    · rw [if_neg hd, if_neg hd, mul_assoc, ← add_assoc, ← (h.unit i hi).distrib, h.run (i - d) (by omega), h.run i hi,
        Nat.min_eq_left (by omega : d ≤ i + 1)]
      have e := go_add a u (i + 1 - min (d + d) (i + 1)) (min d (i - d + 1)) d x
      rw [show i + 1 - min (d + d) (i + 1) + min d (i - d + 1) = i + 1 - d by omega,
        show min d (i - d + 1) + d = min (d + d) (i + 1) by omega] at e
      rw [e, show i - d + 1 - min d (i - d + 1) = i + 1 - min (d + d) (i + 1) by omega]

/-- Once the steps reach over all rows, each row stands for all the maps down to it. -/
theorem Stands.all {a u A U : ℕ → EReal} {N d : ℕ} (h : Stands a u A U N d) (hd : N ≤ d) (i : ℕ) (hi : i < N) (x : EReal) :
    A i * x + U i = go a u 0 (i + 1) x := by
  rw [h.run i hi, Nat.min_eq_right (by omega : i + 1 ≤ d), Nat.sub_self]

/-! ## The gates -/

theorem exp_nonneg (x : EReal) : 0 ≤ Ideal.exp x := by
  induction x with
  | bot => exact le_refl _
  | top => exact le_top
  | coe r => exact EReal.coe_nonneg.mpr (Real.exp_pos r).le

theorem exp_le_one {x : EReal} (h : x ≤ 0) : Ideal.exp x ≤ 1 := by
  induction x with
  | bot => exact zero_le_one
  | top => exact absurd h (not_le.mpr (EReal.coe_lt_top 0))
  | coe r => exact EReal.coe_le_coe_iff.mpr (Real.exp_le_one_iff.mpr (EReal.coe_nonpos.mp h))

theorem log_nonneg {x : EReal} (h : 1 ≤ x) : 0 ≤ Ideal.log x := by
  induction x with
  | bot => exact absurd h (not_le.mpr (EReal.bot_lt_coe 1))
  | top => exact le_top
  | coe r =>
    have h1 : (1 : ℝ) ≤ r := EReal.coe_le_coe_iff.mp h
    show 0 ≤ (if r ≤ 0 then (⊥ : EReal) else ((Real.log r : ℝ) : EReal))
    rw [if_neg (by linarith)]
    exact EReal.coe_nonneg.mpr (Real.log_nonneg h1)

/-- The logistic function. -/
def sigm (x : EReal) : EReal := Ideal.div 1 (1 + Ideal.exp (-x))

theorem sigm_nonneg (x : EReal) : 0 ≤ sigm x := by
  have h : (0 : EReal) < 1 + Ideal.exp (-x) := lt_of_lt_of_le zero_lt_one (le_add_of_nonneg_right (exp_nonneg _))
  rw [sigm, Ideal.div, if_neg h.ne', one_mul]
  exact EReal.inv_nonneg_of_nonneg h.le

/-- The softplus of `-x`. -/
def softplus (x : EReal) : EReal := max (-x) 0 + Ideal.log (1 + Ideal.exp (-(max x (-x))))

theorem softplus_nonneg (x : EReal) : 0 ≤ softplus x :=
  add_nonneg (le_max_right _ _) (log_nonneg (le_add_of_nonneg_right (exp_nonneg _)))

/-- The logarithm of the decay. -/
def logA (r lam : EReal) : EReal := (-8 : EReal) * sigm r * softplus lam

theorem logA_nonpos (r lam : EReal) : logA r lam ≤ 0 := by
  have h8 : (-8 : EReal) * sigm r ≤ 0 := by
    rw [EReal.neg_mul]
    exact EReal.neg_le_of_neg_le (by rw [neg_zero]; exact mul_nonneg (by norm_num) (sigm_nonneg r))
  have := mul_nonneg (EReal.neg_le_neg_iff.mpr h8 |>.trans' (by rw [neg_zero])) (softplus_nonneg lam)
  rw [EReal.neg_mul] at this
  exact EReal.neg_le_neg_iff.mp (by rw [neg_zero]; exact this)

/-- The decay. -/
def decay (r lam : EReal) : EReal := Ideal.exp (logA r lam)

theorem decay_unit (r lam : EReal) : Unit01 (decay r lam) := ⟨exp_nonneg _, exp_le_one (logA_nonpos r lam)⟩

/-- The scale of the input, one at the first row of a sequence. -/
def scale (r lam : EReal) (first : Prop) [Decidable first] : EReal :=
  if first then 1 else Ideal.sqrt (-(Ideal.exp (2 * logA r lam) - 1))

/-- One less the square of `exp x`, through the hyperbolic tangent. -/
theorem tanh_expm1 (x : EReal) (hx : x ≤ 0) :
    Ideal.tanh (-x) * (1 + Ideal.exp x * Ideal.exp x) = -(Ideal.exp (2 * x) - 1) := by
  induction x with
  | bot =>
    rw [EReal.mul_bot_of_pos (by norm_num), EReal.neg_bot]
    show (1 : EReal) * (1 + 0 * 0) = -((0 : EReal) - 1)
    rw [mul_zero, add_zero, mul_one, zero_sub, neg_neg]
  | top => exact absurd hx (not_le.mpr (EReal.coe_lt_top 0))
  | coe r =>
    have e : (2 : EReal) * (r : EReal) = ((2 * r : ℝ) : EReal) := rfl
    rw [e, ← EReal.coe_neg]
    show ((Real.tanh (-r) : ℝ) : EReal) * (1 + ((Real.exp r : ℝ) : EReal) * ((Real.exp r : ℝ) : EReal))
      = -(((Real.exp (2 * r) : ℝ) : EReal) - 1)
    rw [← EReal.coe_one, ← EReal.coe_mul, ← EReal.coe_add, ← EReal.coe_mul, ← EReal.coe_sub, ← EReal.coe_neg]
    congr 1
    have h1 := Real.exp_pos r
    rw [Real.tanh_neg, Real.tanh_eq_sinh_div_cosh, Real.sinh_eq, Real.cosh_eq, Real.exp_neg,
      show 2 * r = r + r by ring, Real.exp_add]
    have h2 : Real.exp r + (Real.exp r)⁻¹ ≠ 0 := by positivity
    field_simp
    ring

theorem neg_eight : Ideal.ofBits .f32 0xC1000000#32 = (-8 : EReal) := by
  simp [Ideal.ofBits, Ideal.ieee, -EReal.coe_mul]; norm_num
  rfl

theorem two : Ideal.ofBits .f32 0x40000000#32 = (2 : EReal) := by
  simp [Ideal.ofBits, Ideal.ieee, -EReal.coe_mul]; norm_num
  rfl

end Cert.LruMath

end
-- ==== Proof.LruSpec.lean ====
/- The gated linear recurrence of one sequence, row by row. -/
module

public import proofs.«01_k».proof.Proof.LruMath

@[expose] public section

noncomputable section

namespace Cert.LruMath

open Idealize.ShloMosaic

/-- The parameters: the taps and the bias of the convolution, the two gates' weights and biases, the decay
    parameter and the weight of the norm. -/
structure Par where
  cw : Fin 4 → Fin 2048 → EReal
  cb : Fin 2048 → EReal
  wa : Fin 16 → Fin 128 → Fin 128 → EReal
  ba : Fin 2048 → EReal
  wx : Fin 16 → Fin 128 → Fin 128 → EReal
  bx : Fin 2048 → EReal
  lam : Fin 2048 → EReal
  nw : Fin 2048 → EReal

variable (P : Par) (x y : ℕ → Fin 2048 → EReal)

/-- The row `d` above row `t`, zero above the first. -/
def above (d t : ℕ) (e : Fin 2048) : EReal := if d ≤ t then x (t - d) e else 0

/-- The convolution of width four. -/
def conv (t : ℕ) (e : Fin 2048) : EReal :=
  P.cb e + x t e * P.cw 3 e + above x 3 t e * P.cw 0 e + above x 2 t e * P.cw 1 e + above x 1 t e * P.cw 2 e

/-- Column `e` of the convolved row times one gate's weights: sixteen square blocks on the diagonal. -/
def lin (W : Fin 16 → Fin 128 → Fin 128 → EReal) (t : ℕ) (e : Fin 2048) : EReal :=
  ∑ d : Fin 128, conv P x t ⟨128 * ((e : ℕ) / 128) + d, by omega⟩
    * W ⟨(e : ℕ) / 128, by omega⟩ d ⟨(e : ℕ) % 128, Nat.mod_lt _ (by decide)⟩

/-- The factor of the recurrence. -/
def aa (e : Fin 2048) (t : ℕ) : EReal := decay (lin P x P.wa t e + P.ba e) (P.lam e)

/-- The summand of the recurrence. -/
def uu (e : Fin 2048) (t : ℕ) : EReal :=
  conv P x t e * sigm (lin P x P.wx t e + P.bx e) * scale (lin P x P.wa t e + P.ba e) (P.lam e) (t = 0)

/-- The state after row `t`. -/
def hh (t : ℕ) (e : Fin 2048) : EReal := go (aa P x e) (uu P x e) 0 (t + 1) 0

/-- The gelu of `v`, in its form with the hyperbolic tangent. -/
def gelu (v : EReal) : EReal :=
  v * (Ideal.ofBits .f32 0x3F000000#32 * (1 + Ideal.tanh (Ideal.ofBits .f32 0x3F4C422A#32
    * (v + Ideal.ofBits .f32 0x3D372713#32 * (v * (v * v))))))

/-- A row scaled by the inverse root of its mean square and by the weight of its column. -/
def norm (f nw : Fin 2048 → EReal) (e : Fin 2048) : EReal :=
  f e * Ideal.rsqrt (Ideal.div (∑ k, f k * f k) (Ideal.ofBits .f32 0x45000000#32) + Ideal.ofBits .f32 0x358637BD#32) * nw e

/-- Row `t` of the result. -/
def res (t : ℕ) (e : Fin 2048) : EReal := norm (fun k => hh P x t k * gelu (y t k)) P.nw e

end Cert.LruMath

end
-- ==== Proof.LruRef.lean ====
/- The reference of the gated linear recurrence: what it computes before its loop, and its loop. -/
module

public import proofs.«01_k».proof.Proof.LruSpec
public import proofs.«01_k».proof.Proof.Gen.LruRefIdeal.Step
public import Idealize.ShloMosaic.Lib.Claim
public import Idealize.ShloMosaic.Lib.Routing.OpsSet

@[expose] public section

set_option maxRecDepth 16384

noncomputable section

namespace Cert.LruRef

open Cert.LruRefIdeal Cert.LruRefIdeal.Gen Cert.LruRefIdeal.Step Cert.LruMath Idealize.ShloMosaic

variable (a0 : FVec Ideal S16384x12288 .bf16) (a1 : FVec Ideal S4x2048 .f32) (a2 : FVec Ideal S2048 .f32)
  (a3 : FVec Ideal S16x128x128 .f32) (a4 : FVec Ideal S2048 .f32) (a5 : FVec Ideal S16x128x128 .f32)
  (a6 a7 a8 : FVec Ideal S2048 .f32)

/-- The parameters of the arrays. -/
def par : Par where
  cw k e := a1 (ix2 k e)
  cb e := a2 (ix1 e)
  wa n d j := a3 (ix3 n d j)
  ba e := a4 (ix1 e)
  wx n d j := a5 (ix3 n d j)
  bx e := a6 (ix1 e)
  lam e := a7 (ix1 e)
  nw e := a8 (ix1 e)

/-- Row `s` of sequence `B`, from column `o` on. -/
def rows (o : ℕ) (ho : o + 2048 ≤ 12288) (B s : ℕ) (e : Fin 2048) : EReal :=
  if h : B * 2048 + s < 16384 then a0 (ix2 ⟨B * 2048 + s, h⟩ ⟨o + e, by omega⟩) else 0

abbrev xs (B : ℕ) : ℕ → Fin 2048 → EReal := rows a0 8192 (by decide) B
abbrev ys (B : ℕ) : ℕ → Fin 2048 → EReal := rows a0 10240 (by decide) B

theorem x_at (B : Fin 8) (t e : Fin 2048) : A_main_v2 (F := Ideal) a0 a1 a2 a3 a4 a5 a6 a7 (ix3 B t e) = xs a0 B t e := by
  rw [xs, rows, dif_pos (by omega)]
  pointwise [A_main_v2, A_main_v1, A_main_v0]

theorem zero_word : (FloatOps.sitofp (F := Ideal) .f32 (0#32) : EReal) = 0 := by
  show ((((0#32 : BitVec 32).toInt : ℤ) : ℝ) : EReal) = 0
  simp

/-- The rows with three rows of zeros in front. -/
theorem pad_at (B : Fin 8) (n : Fin 2051) (e : Fin 2048) : A_main_v3 (F := Ideal) a0 a1 a2 a3 a4 a5 a6 a7 (ix3 B n e)
    = if h : 3 ≤ (n : ℕ) ∧ (n : ℕ) - 3 < 2048 then A_main_v2 (F := Ideal) a0 a1 a2 a3 a4 a5 a6 a7 (ix3 B ⟨(n : ℕ) - 3, h.2⟩ e) else 0 := by
  rw [← zero_word]
  pointwise [A_main_v3, K_main_call0_v0, K_main_c]

theorem tap (B : Fin 8) (t e : Fin 2048) (d : ℕ) (hd : d ≤ 3) (n : Fin 2051) (hn : (n : ℕ) + d = t + 3) :
    A_main_v3 (F := Ideal) a0 a1 a2 a3 a4 a5 a6 a7 (ix3 B n e) = above (xs a0 B) d t e := by
  rw [pad_at, above]
  by_cases h : d ≤ (t : ℕ)
  · rw [dif_pos (by omega), if_pos h, x_at]
    exact congrArg (fun i => xs a0 B i e) (by show (n : ℕ) - 3 = t - d; omega)
  · rw [dif_neg (by omega), if_neg h]

section
attribute [local irreducible] A_main_v3

theorem taps_at (B : Fin 8) (t e : Fin 2048) : A_main_v33 (F := Ideal) a0 a1 a2 a3 a4 a5 a6 a7 (ix3 B t e)
    = a2 (ix1 e) + A_main_v3 (F := Ideal) a0 a1 a2 a3 a4 a5 a6 a7 (ix3 B ⟨t, by omega⟩ e) * a1 (ix2 0 e)
      + A_main_v3 (F := Ideal) a0 a1 a2 a3 a4 a5 a6 a7 (ix3 B ⟨1 + t, by omega⟩ e) * a1 (ix2 1 e)
      + A_main_v3 (F := Ideal) a0 a1 a2 a3 a4 a5 a6 a7 (ix3 B ⟨2 + t, by omega⟩ e) * a1 (ix2 2 e)
      + A_main_v3 (F := Ideal) a0 a1 a2 a3 a4 a5 a6 a7 (ix3 B ⟨3 + t, by omega⟩ e) * a1 (ix2 3 e) := by
  pointwise [A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4]
end

/-- The convolution. -/
theorem conv_at (B : Fin 8) (t e : Fin 2048) : A_main_v33 (F := Ideal) a0 a1 a2 a3 a4 a5 a6 a7 (ix3 B t e)
    = conv (par a1 a2 a3 a4 a5 a6 a7 a8) (xs a0 B) t e := by
  rw [taps_at, tap a0 a1 a2 a3 a4 a5 a6 a7 B t e 3 (by decide) _ (by show (t : ℕ) + 3 = _; omega),
    tap a0 a1 a2 a3 a4 a5 a6 a7 B t e 2 (by decide) _ (by show 1 + (t : ℕ) + 2 = _; omega),
    tap a0 a1 a2 a3 a4 a5 a6 a7 B t e 1 (by decide) _ (by show 2 + (t : ℕ) + 1 = _; omega),
    tap a0 a1 a2 a3 a4 a5 a6 a7 B t e 0 (by decide) _ (by show 3 + (t : ℕ) + 0 = _; omega)]
  have h0 : above (xs a0 B) 0 t e = xs a0 B t e := if_pos (Nat.zero_le _)
  rw [h0, conv]
  show a2 (ix1 e) + _ * a1 (ix2 0 e) + _ * a1 (ix2 1 e) + _ * a1 (ix2 2 e) + _ * a1 (ix2 3 e)
    = a2 (ix1 e) + _ * a1 (ix2 3 e) + _ * a1 (ix2 0 e) + _ * a1 (ix2 1 e) + _ * a1 (ix2 2 e)
  ac_rfl

section
attribute [local irreducible] A_main_v33

theorem lin_a (B : Fin 8) (t e : Fin 2048) : A_main_v37 (F := Ideal) a0 a1 a2 a3 a4 a5 a6 a7 (ix3 B t e)
    = ∑ d : Fin 128, a3 (ix3 ⟨(e : ℕ) / 128, by omega⟩ d ⟨(e : ℕ) % 128, Nat.mod_lt _ (by decide)⟩)
      * A_main_v33 (F := Ideal) a0 a1 a2 a3 a4 a5 a6 a7 (ix3 B t ⟨(e : ℕ) / 128 * 128 + d, by omega⟩) := by
  pointwise [A_main_v37, A_main_v36, A_main_v35, A_main_v34]

theorem lin_x (B : Fin 8) (t e : Fin 2048) : A_main_v49 (F := Ideal) a0 a1 a2 a3 a4 a5 a6 a7 (ix3 B t e)
    = ∑ d : Fin 128, a5 (ix3 ⟨(e : ℕ) / 128, by omega⟩ d ⟨(e : ℕ) % 128, Nat.mod_lt _ (by decide)⟩)
      * A_main_v33 (F := Ideal) a0 a1 a2 a3 a4 a5 a6 a7 (ix3 B t ⟨(e : ℕ) / 128 * 128 + d, by omega⟩) := by
  pointwise [A_main_v49, A_main_v48, A_main_v47, A_main_v34]
end

theorem lin_a_eq (B : Fin 8) (t e : Fin 2048) : A_main_v37 (F := Ideal) a0 a1 a2 a3 a4 a5 a6 a7 (ix3 B t e)
    = lin (par a1 a2 a3 a4 a5 a6 a7 a8) (xs a0 B) (par a1 a2 a3 a4 a5 a6 a7 a8).wa t e := by
  rw [lin_a, lin]
  exact Finset.sum_congr rfl fun d _ =>
    (mul_comm _ _).trans (congrArg (· * _) ((conv_at a0 a1 a2 a3 a4 a5 a6 a7 a8 B t _).trans
      (congrArg (conv _ _ _) (Fin.ext (congrArg (· + (d : ℕ)) (Nat.mul_comm _ _))))))

theorem lin_x_eq (B : Fin 8) (t e : Fin 2048) : A_main_v49 (F := Ideal) a0 a1 a2 a3 a4 a5 a6 a7 (ix3 B t e)
    = lin (par a1 a2 a3 a4 a5 a6 a7 a8) (xs a0 B) (par a1 a2 a3 a4 a5 a6 a7 a8).wx t e := by
  rw [lin_x, lin]
  exact Finset.sum_congr rfl fun d _ =>
    (mul_comm _ _).trans (congrArg (· * _) ((conv_at a0 a1 a2 a3 a4 a5 a6 a7 a8 B t _).trans
      (congrArg (conv _ _ _) (Fin.ext (congrArg (· + (d : ℕ)) (Nat.mul_comm _ _))))))

end Cert.LruRef

end
-- ==== Proof.LruRefGate.lean ====
/- The gates of the reference, and what its loop starts from. -/
module

public import proofs.«01_k».proof.Proof.LruRef

@[expose] public section

set_option maxRecDepth 16384

noncomputable section

namespace Cert.LruRef

open Cert.LruRefIdeal Cert.LruRefIdeal.Gen Cert.LruRefIdeal.Step Cert.LruMath Idealize.ShloMosaic

variable (a0 : FVec Ideal S16384x12288 .bf16) (a1 : FVec Ideal S4x2048 .f32) (a2 : FVec Ideal S2048 .f32)
  (a3 : FVec Ideal S16x128x128 .f32) (a4 : FVec Ideal S2048 .f32) (a5 : FVec Ideal S16x128x128 .f32)
  (a6 a7 a8 : FVec Ideal S2048 .f32)

section
attribute [local irreducible] A_main_v33 A_main_v37 A_main_v49

theorem gate_a (B : Fin 8) (t e : Fin 2048) : A_main_v46 (F := Ideal) a0 a1 a2 a3 a4 a5 a6 a7 (ix3 B t e)
    = sigm (A_main_v37 (F := Ideal) a0 a1 a2 a3 a4 a5 a6 a7 (ix3 B t e) + a4 (ix1 e)) := by
  rw [sigm]
  pointwise [A_main_v46, A_main_v44, A_main_v42, A_main_v41, A_main_v40, A_main_v39, A_main_v38, K_main_v45, K_main_cst_0,
    K_main_v43, K_main_cst]

theorem gate_x (B : Fin 8) (t e : Fin 2048) : A_main_v58 (F := Ideal) a0 a1 a2 a3 a4 a5 a6 a7 (ix3 B t e)
    = sigm (A_main_v49 (F := Ideal) a0 a1 a2 a3 a4 a5 a6 a7 (ix3 B t e) + a6 (ix1 e)) := by
  rw [sigm]
  pointwise [A_main_v58, A_main_v56, A_main_v54, A_main_v53, A_main_v52, A_main_v51, A_main_v50, K_main_v55, K_main_cst_1,
    K_main_v57, K_main_cst_2]

theorem soft_at (e : Fin 2048) : A_main_v62 (F := Ideal) a0 a1 a2 a3 a4 a5 a6 a7 (ix1 e) = softplus (a7 (ix1 e)) := by
  rw [softplus]
  pointwise [A_main_v62, A_main_call1_v11, A_main_call1_v10, A_main_call1_v9, A_main_call1_v8, A_main_call1_v7,
    A_main_call1_v6, A_main_call1_v4, A_main_call1_v3, A_main_call1_v1, A_main_v61, K_main_call1_v0, K_main_call1_v2,
    K_main_call1_v5, K_main_call1_cst]
  rw [if_neg (not_not_intro rfl), Ideal.absf_def, neg_neg, max_comm (-a7 (ix1 e)) (a7 (ix1 e))]
  rfl
end

section
attribute [local irreducible] A_main_v46 A_main_v62

theorem log_at (B : Fin 8) (t e : Fin 2048) : A_main_v65 (F := Ideal) a0 a1 a2 a3 a4 a5 a6 a7 (ix3 B t e)
    = Ideal.ofBits .f32 0xC1000000#32 * A_main_v46 (F := Ideal) a0 a1 a2 a3 a4 a5 a6 a7 (ix3 B t e) * A_main_v62 (F := Ideal) a0 a1 a2 a3 a4 a5 a6 a7 (ix1 e) := by
  pointwise [A_main_v65, A_main_v64, A_main_v63, A_main_v60, K_main_v59, K_main_cst_3]
end

theorem log_eq (B : Fin 8) (t e : Fin 2048) : A_main_v65 (F := Ideal) a0 a1 a2 a3 a4 a5 a6 a7 (ix3 B t e)
    = logA (A_main_v37 (F := Ideal) a0 a1 a2 a3 a4 a5 a6 a7 (ix3 B t e) + a4 (ix1 e)) (a7 (ix1 e)) := by
  rw [log_at, gate_a, soft_at, neg_eight, logA]

section
attribute [local irreducible] A_main_v65 A_main_v33 A_main_v58 A_main_v74

theorem decay_at (B : Fin 8) (t e : Fin 2048) : A_main_v66 (F := Ideal) a0 a1 a2 a3 a4 a5 a6 a7 (ix3 B t e)
    = Ideal.exp (A_main_v65 (F := Ideal) a0 a1 a2 a3 a4 a5 a6 a7 (ix3 B t e)) := by
  pointwise [A_main_v66]

theorem root_at (B : Fin 8) (t e : Fin 2048) : A_main_v71 (F := Ideal) a0 a1 a2 a3 a4 a5 a6 a7 (ix3 B t e)
    = Ideal.sqrt (-(Ideal.exp (Ideal.ofBits .f32 0x40000000#32 * A_main_v65 (F := Ideal) a0 a1 a2 a3 a4 a5 a6 a7 (ix3 B t e)) - 1)) := by
  pointwise [A_main_v71, A_main_v70, A_main_v69, A_main_v68, K_main_v67, K_main_cst_4]

theorem in_at (B : Fin 8) (t e : Fin 2048) : A_main_v76 (F := Ideal) a0 a1 a2 a3 a4 a5 a6 a7 (ix3 B t e)
    = A_main_v33 (F := Ideal) a0 a1 a2 a3 a4 a5 a6 a7 (ix3 B t e) * A_main_v58 (F := Ideal) a0 a1 a2 a3 a4 a5 a6 a7 (ix3 B t e)
      * A_main_v74 (F := Ideal) a0 a1 a2 a3 a4 a5 a6 a7 (ix3 B t e) := by
  pointwise [A_main_v76, A_main_v75]
end

/-- Where an update of the scatter lands: in the first row of its sequence. -/
theorem lands (k : S8x2048.Idx) :
    scatter_S8x2048x2048_S1_S8x2048_01_1_1_0.resultIdx? k (K_main_v72 (F := Ideal)) = some (ix3 (k 0) 0 (k 1)) := by
  have hs : ∀ a, scatter_S8x2048x2048_S1_S8x2048_01_1_1_0.start k (K_main_v72 (F := Ideal)) a = 0 := fun a => by
    unfold ScatterDims.start
    split
    · rfl
    · rfl
  have hw : ∀ a, scatter_S8x2048x2048_S1_S8x2048_01_1_1_0.window k a
      = ((ix3 (k 0) (0 : Fin 2048) (k 1) : S8x2048x2048.Idx) a).val := fun a => by
    match a with
    | ⟨0, _⟩ => rfl
    | ⟨1, _⟩ => rfl
    | ⟨2, _⟩ => rfl
  unfold ScatterDims.resultIdx?
  rw [dif_pos fun a => by
    rw [hs, hw, zero_add]
    exact ⟨Int.natCast_nonneg _, Int.ofNat_lt.2 (Fin.isLt _)⟩]
  refine congrArg some (funext fun a => Fin.ext ?_)
  show (_ + _ : ℤ).toNat = _
  rw [hs, hw, zero_add, Int.toNat_natCast]
  rfl

/-- The factor of the summand: one in the first row. -/
theorem scale_at (B : Fin 8) (t e : Fin 2048) : A_main_v74 (F := Ideal) a0 a1 a2 a3 a4 a5 a6 a7 (ix3 B t e)
    = if (t : ℕ) = 0 then 1 else A_main_v71 (F := Ideal) a0 a1 a2 a3 a4 a5 a6 a7 (ix3 B t e) := by
  by_cases h : (t : ℕ) = 0
  · rw [if_pos h]
    have ht : t = 0 := Fin.ext h
    subst ht
    refine Routing.scatter_set_hit _ _ _ _ _ _ (fun k _ => ?_) (ix2 B e) (lands _)
    pointwise [K_main_v73, K_main_cst_6]
  · rw [if_neg h]
    refine Routing.scatter_set_miss _ _ _ _ _ (fun k hk => h ?_)
    rw [lands] at hk
    have := congrFun (Option.some.inj hk) 1
    exact (congrArg Fin.val this).symm

/-! ## What the loop starts from -/

theorem a_at (t : Fin 2048) (B : Fin 8) (e : Fin 2048) : A_main_v78 (F := Ideal) a0 a1 a2 a3 a4 a5 a6 a7 (ix3 t B e)
    = aa (par a1 a2 a3 a4 a5 a6 a7 a8) (xs a0 B) e t := by
  have h : A_main_v78 (F := Ideal) a0 a1 a2 a3 a4 a5 a6 a7 (ix3 t B e) = A_main_v66 (F := Ideal) a0 a1 a2 a3 a4 a5 a6 a7 (ix3 B t e) := by
    pointwise [A_main_v78]
  rw [h, decay_at, log_eq, lin_a_eq _ _ _ _ _ _ _ _ a8]
  rfl

theorem u_at (t : Fin 2048) (B : Fin 8) (e : Fin 2048) : A_main_v79 (F := Ideal) a0 a1 a2 a3 a4 a5 a6 a7 (ix3 t B e)
    = uu (par a1 a2 a3 a4 a5 a6 a7 a8) (xs a0 B) e t := by
  have h : A_main_v79 (F := Ideal) a0 a1 a2 a3 a4 a5 a6 a7 (ix3 t B e) = A_main_v76 (F := Ideal) a0 a1 a2 a3 a4 a5 a6 a7 (ix3 B t e) := by
    pointwise [A_main_v79]
  rw [h, in_at, scale_at, root_at, log_eq, gate_x, lin_a_eq _ _ _ _ _ _ _ _ a8, lin_x_eq _ _ _ _ _ _ _ _ a8,
    conv_at _ _ _ _ _ _ _ _ a8, two]
  rfl

end Cert.LruRef

end
-- ==== Proof.LruLoop.lean ====
/- The loop of the reference, and its result. -/
module

public import proofs.«01_k».proof.Proof.LruRefGate

@[expose] public section

set_option maxRecDepth 16384

noncomputable section

namespace Cert.LruRef

open Cert.LruRefIdeal Cert.LruRefIdeal.Gen Cert.LruRefIdeal.Step Cert.LruMath Idealize.ShloMosaic

/-- The trip's number read as an index. -/
theorem trip (j : ℕ) (hj : j < 2048) : (BitVec.ofNat 32 j).toInt = (j : ℤ) :=
  StableHlo.Predicate.toInt_ofNat_small _ (by omega)

section
variable (j : ℕ) (hj : j < 2048) (s : State Ideal)

include hj in
/-- The corner of the one row a trip reads and writes. -/
theorem corner (h : S1x8x2048.rank = S2048x8x2048.rank) (start : Fin 3 → ℤ) (hs : start = ![(BitVec.ofNat 32 j).toInt, 0, 0]) :
    Host.clampedStart S2048x8x2048 S1x8x2048 h start 0 = j
      ∧ Host.clampedStart S2048x8x2048 S1x8x2048 h start 1 = 0
      ∧ Host.clampedStart S2048x8x2048 S1x8x2048 h start 2 = 0 := by
  subst hs
  refine ⟨Host.clampedStart_of_le _ _ _ _ (trip j hj) ?_, Host.clampedStart_of_le _ _ _ _ rfl ?_,
    Host.clampedStart_of_le _ _ _ _ rfl ?_⟩
  · show j + 1 ≤ 2048
    omega
  · show 0 + 8 ≤ 8
    omega
  · show 0 + 2048 ≤ 2048
    omega

/-- The corner's words. -/
theorem words : (fun k => BitVec.toInt ((![constantI S_ 32 (BitVec.ofNat 32 j), constantI S_ 32 0#32, constantI S_ 32 0#32]
      : Fin 3 → (⟨S_, .i32⟩ : BufTy).Contents (Elt Ideal)) k (Shape.Idx.first h_S_))) = ![(BitVec.ofNat 32 j).toInt, 0, 0] := by
  funext k
  match k with
  | ⟨0, _⟩ => rfl
  | ⟨1, _⟩ => rfl
  | ⟨2, _⟩ => rfl

include hj in
theorem next_at (B : Fin 8) (e : Fin 2048) : b9 j s (ix2 B e)
    = s.main_v81_0 (ix3 ⟨j, hj⟩ B e) * s.main_v81_3 (ix2 B e) + s.main_v81_1 (ix3 ⟨j, hj⟩ B e) := by
  pointwise [b9, b8, b7, b6, b5, b4, b3, b2, b1, b0, (corner j hj _ _ (words j)).1, (corner j hj _ _ (words j)).2.1,
    (corner j hj _ _ (words j)).2.2]

include hj in
theorem kept_at (t : Fin 2048) (B : Fin 8) (e : Fin 2048) : b13 j s (ix3 t B e)
    = if (t : ℕ) = j then b9 j s (ix2 B e) else s.main_v81_4 (ix3 t B e) := by
  pointwise [b13, b12, b11, b10, (corner j hj _ _ (words j)).1, (corner j hj _ _ (words j)).2.1,
    (corner j hj _ _ (words j)).2.2]
  by_cases h : (t : ℕ) = j
  · rw [dif_pos (by omega), if_pos h]
  · rw [dif_neg (by omega), if_neg h]
end

/-- The result of the loop's last state. -/
theorem result_at (s : State Ideal) (a0 : FVec Ideal S16384x12288 .bf16) (a8 : FVec Ideal S2048 .f32) (R : Fin 16384) (e : Fin 2048)
   : R_main_v114 s a0 a8 (ix2 R e) = LruMath.norm (fun k => s.main_v81_4 (ix3 ⟨R % 2048, Nat.mod_lt _ (by decide)⟩ ⟨R / 2048, by omega⟩ k)
      * gelu (a0 (ix2 R ⟨10240 + k, by omega⟩))) (fun k => a8 (ix1 k)) e := by
  have g : ∀ v : EReal, gelu v = v * (Ideal.ofBits .f32 0x3F000000#32 * (1 + Ideal.tanh (Ideal.ofBits .f32 0x3F4C422A#32
      * (v + Ideal.ofBits .f32 0x3D372713#32 * (v * v * v))))) := fun v => by rw [gelu, mul_assoc v v v]
  rw [LruMath.norm]
  simp only [g]
  pointwise [R_main_v114]

variable (a0 : FVec Ideal S16384x12288 .bf16) (a1 : FVec Ideal S4x2048 .f32) (a2 : FVec Ideal S2048 .f32)
  (a3 : FVec Ideal S16x128x128 .f32) (a4 : FVec Ideal S2048 .f32) (a5 : FVec Ideal S16x128x128 .f32)
  (a6 a7 a8 : FVec Ideal S2048 .f32)

/-- The states of the loop, trip by trip. -/
def it : ℕ → State Ideal
  | 0 => init a0 a1 a2 a3 a4 a5 a6 a7
  | n + 1 => step n (it n)

theorem it_a : ∀ n, (it a0 a1 a2 a3 a4 a5 a6 a7 n).main_v81_0 = A_main_v78 (F := Ideal) a0 a1 a2 a3 a4 a5 a6 a7
  | 0 => rfl
  | n + 1 => it_a n

theorem it_u : ∀ n, (it a0 a1 a2 a3 a4 a5 a6 a7 n).main_v81_1 = A_main_v79 (F := Ideal) a0 a1 a2 a3 a4 a5 a6 a7
  | 0 => rfl
  | n + 1 => it_u n

/-- The state after `n` trips, and the rows kept by then. -/
theorem it_at : ∀ n, n ≤ 2048 →
    (∀ (B : Fin 8) (e : Fin 2048), (it a0 a1 a2 a3 a4 a5 a6 a7 n).main_v81_3 (ix2 B e)
      = go (aa (par a1 a2 a3 a4 a5 a6 a7 a8) (xs a0 B) e) (uu (par a1 a2 a3 a4 a5 a6 a7 a8) (xs a0 B) e) 0 n 0)
    ∧ ∀ (t : Fin 2048) (B : Fin 8) (e : Fin 2048), (t : ℕ) < n → (it a0 a1 a2 a3 a4 a5 a6 a7 n).main_v81_4 (ix3 t B e)
      = hh (par a1 a2 a3 a4 a5 a6 a7 a8) (xs a0 B) t e
  | 0, _ => by
    refine ⟨fun B e => ?_, fun t B e h => absurd h (Nat.not_lt_zero _)⟩
    show K_main_v77 (F := Ideal) (ix2 B e) = 0
    pointwise [K_main_v77, K_main_cst_7]
  | n + 1, hn => by
    obtain ⟨h3, h4⟩ := it_at n (by omega)
    have hb : ∀ (B : Fin 8) (e : Fin 2048), b9 n (it a0 a1 a2 a3 a4 a5 a6 a7 n) (ix2 B e)
        = go (aa (par a1 a2 a3 a4 a5 a6 a7 a8) (xs a0 B) e) (uu (par a1 a2 a3 a4 a5 a6 a7 a8) (xs a0 B) e) 0 (n + 1) 0 := by
      intro B e
      rw [next_at n (by omega), it_a, it_u, h3, a_at _ _ _ _ _ _ _ _ a8, u_at _ _ _ _ _ _ _ _ a8, go, Nat.zero_add]
    refine ⟨fun B e => (congrFun (step_main_v81_3 n _) _).trans (hb B e), fun t B e h => ?_⟩
    refine (congrFun (step_main_v81_4 n _) _).trans ?_
    rw [kept_at n (by omega)]
    by_cases ht : (t : ℕ) = n
    · rw [if_pos ht, hb, hh, ht]
    · rw [if_neg ht, h4 t B e (by omega)]

/-- The result of the reference. -/
theorem ref_at (R : Fin 16384) (e : Fin 2048) : R_main_v114 (it a0 a1 a2 a3 a4 a5 a6 a7 2048) a0 a8 (ix2 R e)
    = res (par a1 a2 a3 a4 a5 a6 a7 a8) (xs a0 (R / 2048)) (ys a0 (R / 2048)) (R % 2048) e := by
  rw [result_at, res]
  refine congrArg (fun f => LruMath.norm f (fun k => a8 (ix1 k)) e) (funext fun k => ?_)
  refine congrArg₂ (fun a b : EReal => a * gelu b) ((it_at a0 a1 a2 a3 a4 a5 a6 a7 a8 2048 le_rfl).2 _ _ k (Nat.mod_lt _ (by decide))) ?_
  have hR : (R : ℕ) / 2048 * 2048 + R % 2048 = R := Nat.div_add_mod' _ _
  rw [ys, rows, dif_pos (by rw [hR]; exact R.isLt)]
  exact congrArg (fun r => a0 (ix2 r _)) (Fin.ext hR.symm)

end Cert.LruRef

end
-- ==== Proof.LruRun.lean ====
/- The run of the reference: the buffers its loop carries, trip by trip. -/
module

public import proofs.«01_k».proof.Proof.Gen.LruRefIdeal.Run
public import proofs.«01_k».proof.Proof.LruLoop

@[expose] public section

noncomputable section

namespace Cert.LruRef

open Idealize.ShloMosaic Idealize.ShloMosaic.TcCoe Idealize.SL.Sem Idealize.ShloMosaic.StableHlo
open Cert.LruRefIdeal Cert.LruRefIdeal.Gen Cert.LruRefIdeal.Value Cert.LruRefIdeal.Step

variable {F : FTy → Type} [FloatOps F]

/-- The carried arrays of a valuation. -/
def carried (V0 : Valuation τ sig (Elt F)) : State F where
  main_v81_3 := V0 (Proc.devRef .tc main_v81_3)
  main_v81_4 := V0 (Proc.devRef .tc main_v81_4)
  main_v81_0 := V0 (Proc.devRef .tc main_v81_0)
  main_v81_1 := V0 (Proc.devRef .tc main_v81_1)

/-- The valuation is the state `s` before trip `j`. -/
def Before (V0 : Valuation τ sig (Elt F)) (s : State F) (j : ℕ) : Prop :=
  carried V0 = s ∧ V0 (Proc.devRef .tc main_v81_2) = constantI S_ 32 (BitVec.ofNat 32 j)

section
variable (V0 : Valuation τ sig (Elt F)) (j : ℕ)
  (h : V0 (Proc.devRef .tc main_v81_2) = constantI S_ 32 (BitVec.ofNat 32 j))
include h

theorem new_state : Value.step_main_v81_3 V0 = b9 j (carried V0) := by
  unfold Value.step_main_v81_3
  show res_main_while0b_v118 V0 = _
  unfold res_main_while0b_v118
  rw [h]
  rfl

theorem new_rows : Value.step_main_v81_4 V0 = b13 j (carried V0) := by
  have e : b10 j (carried V0)
      = broadcastInDim S1x8x2048 ![1, 2] bcast_S8x2048_S1x8x2048_1_2 (res_main_while0b_v118 V0) := by
    unfold b10
    rw [← new_state V0 j h]
    rfl
  unfold b13
  rw [e]
  unfold Value.step_main_v81_4
  rw [h]
  rfl

theorem new_number : step_main_v81_2 V0 = constantI S_ 32 (BitVec.ofNat 32 (j + 1)) := by
  unfold step_main_v81_2
  rw [h]
  funext i
  show BitVec.ofNat 32 j + 1#32 = BitVec.ofNat 32 (j + 1)
  rw [BitVec.ofNat_add]

end

/-- One trip. -/
theorem Before.next {V0 : Valuation τ sig (Elt F)} {s : State F} {j : ℕ} (h : Before V0 s j) :
    Before (STEP V0) (step j s) (j + 1) := by
  obtain ⟨rfl, hj⟩ := h
  refine ⟨?_, (STEP_main_v81_2 V0).trans (new_number V0 j hj)⟩
  unfold carried step
  rw [STEP_main_v81_3, STEP_main_v81_4, STEP_main_v81_0, STEP_main_v81_1, new_state V0 j hj, new_rows V0 j hj]
  rfl

section
variable (m : (ℓ : Loc nD τ sig) → Buf (Elt F) ℓ) (c : Dev nD)

/-- What the first trip starts from. -/
abbrev start : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

set_option maxRecDepth 65536 in
set_option maxHeartbeats 500000 in
theorem first_state : entryContents preI m c (Proc.devRef .tc main_v81_3) = (start m c).main_v81_3 := by
  simp only [entryContents, afterL_cons, afterL_nil]
  after_reads_simp
  rfl

set_option maxRecDepth 65536 in
set_option maxHeartbeats 500000 in
theorem first_rows : entryContents preI m c (Proc.devRef .tc main_v81_4) = (start m c).main_v81_4 := by
  simp only [entryContents, afterL_cons, afterL_nil]
  after_reads_simp
  rfl

set_option maxRecDepth 65536 in
set_option maxHeartbeats 500000 in
theorem first_factor : entryContents preI m c (Proc.devRef .tc main_v81_0) = (start m c).main_v81_0 := by
  simp only [entryContents, afterL_cons, afterL_nil]
  after_reads_simp
  rfl

set_option maxRecDepth 65536 in
set_option maxHeartbeats 500000 in
theorem first_summand : entryContents preI m c (Proc.devRef .tc main_v81_1) = (start m c).main_v81_1 := by
  simp only [entryContents, afterL_cons, afterL_nil]
  after_reads_simp
  rfl

set_option maxRecDepth 65536 in
set_option maxHeartbeats 500000 in
theorem first_number : entryContents preI m c (Proc.devRef .tc main_v81_2) = constantI S_ 32 (BitVec.ofNat 32 0) := by
  simp only [entryContents, afterL_cons, afterL_nil]
  after_reads_simp
  rfl

theorem before_first : Before (entryContents preI m c) (start m c) 0 := by
  refine ⟨?_, first_number m c⟩
  unfold carried
  rw [first_state, first_rows, first_factor, first_summand]

end

variable (m : (ℓ : Loc nD τ sig) → Buf (Elt Ideal) ℓ) (c : Dev nD)

/-- The states of the loop from the arguments in memory. -/
abbrev states : ℕ → State Ideal :=
  it (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem before : ∀ k, Before (STEP^[k] (entryContents preI m c)) (states m c k) k
  | 0 => before_first m c
  | k + 1 => by
    rw [Function.iterate_succ_apply']
    exact (before k).next

/-- The result the run ends with. -/
theorem out_at (V0 : Valuation τ sig (Elt F)) : out_main_v114 V0
    = R_main_v114 (carried V0) (V0 (Proc.devRef .tc main_arg0)) (V0 (Proc.devRef .tc main_arg8)) := by
  unfold out_main_v114 R_main_v114
  rfl

/-- The reference's run: its result is that of the last state, and its arguments are as they were. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v114)
        = R_main_v114 (states m c 2048) (m ((c.tc : Thread nD τ).loc main_arg0)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ⟨(h c).1.trans ((out_at _).trans ?_), (h c).2⟩) (Value.run m ρ)
  rw [(before m c 2048).1, iter_main_arg0 m c 2048, iter_main_arg8 m c 2048]

end Cert.LruRef

end
-- ==== Proof.LruScan.lean ====
/- The doubling scan over the 256 rows of a block, as the body writes it. -/
module

public import proofs.«01_k».proof.Proof.LruMath
public import proofs.«01_k».proof.Proof.Gen.LruIdeal.Value
public import Idealize.ShloMosaic.Lib.Pipeline.ValueKit
public import Idealize.ShloMosaic.Lib.Pointwise
public import Idealize.ShloMosaic.Lib.StableHlo.Predicate

@[expose] public section

set_option maxRecDepth 16384

noncomputable section

namespace Cert.LruIdeal.Value

open Cert.LruIdeal Cert.LruIdeal.Gen Cert.LruMath Idealize.ShloMosaic Idealize.ShloMosaic.TcCoe Idealize.SL.Sem

/-- A block moved down by `d` rows, with `fill` in the rows that come free. -/
def shift (d : BitVec 32) (fill : BitVec 32) (X : FVec Ideal S256x2048 .f32) : FVec Ideal S256x2048 .f32 :=
  select (cmpi .slt (iota .tc S256x2048 32 [0] iota_S256x2048_d0_w32) (broadcast S256x2048 d))
    (broadcast S256x2048 (Scalar.ofBits (F := Ideal) .f32 fill)) (dynamicRotate 0 d none X rotates_S256x2048_d0)

/-- The factors after one level. -/
def levA (d : BitVec 32) (A : FVec Ideal S256x2048 .f32) : FVec Ideal S256x2048 .f32 :=
  mulf A (shift d 0x3F800000#32 A)

/-- The summands after one level. -/
def levU (d : BitVec 32) (A U : FVec Ideal S256x2048 .f32) : FVec Ideal S256x2048 .f32 :=
  addf (mulf A (shift d 0x00000000#32 U)) U

/-- One column of a block. -/
def col (X : FVec Ideal S256x2048 .f32) (e : Fin 2048) (i : ℕ) : EReal :=
  if h : i < 256 then X (ix2 ⟨i, h⟩ e) else 0

theorem col_at (X : FVec Ideal S256x2048 .f32) (e : Fin 2048) (r : Fin 256) : col X e r = X (ix2 r e) :=
  dif_pos r.isLt

theorem shift_at (d : ℕ) (h1 : 1 ≤ d) (hd : d ≤ 128) (fill : BitVec 32) (X : FVec Ideal S256x2048 .f32) (r : Fin 256) (e : Fin 2048) :
    shift (BitVec.ofNat 32 d) fill X (ix2 r e)
      = if (r : ℕ) < d then Scalar.ofBits (F := Ideal) .f32 fill else col X e (r - d) := by
  have hr := r.isLt
  have hn : (BitVec.ofNat 32 d).toNat = d := by rw [BitVec.toNat_ofNat]; omega
  have hc : IntOp.cmpi .slt (BitVec.ofNat 32 (r : ℕ)) (BitVec.ofNat 32 d) = BitVec.ofBool (decide ((r : ℕ) < d)) := by
    show BitVec.ofBool (decide ((BitVec.ofNat 32 (r : ℕ)).toInt < (BitVec.ofNat 32 d).toInt)) = _
    rw [Idealize.ShloMosaic.StableHlo.Predicate.toInt_ofNat_small _ (by omega), Idealize.ShloMosaic.StableHlo.Predicate.toInt_ofNat_small _ (by omega)]
    congr 2
    exact propext Int.ofNat_lt
  pointwise [shift]
  rw [hc]
  by_cases h : (r : ℕ) < d
  · rw [if_pos h, decide_eq_true h]; rfl
  · rw [if_neg h, decide_eq_false h, col, dif_pos (by omega)]
    show X _ = X _
    congr 2
    exact Fin.ext (by show ((r : ℕ) + 256 - (BitVec.ofNat 32 d).toNat % 256) % 256 = r - d; rw [hn]; omega)

theorem levA_at (d : ℕ) (h1 : 1 ≤ d) (hd : d ≤ 128) (A : FVec Ideal S256x2048 .f32) (e : Fin 2048) (i : ℕ) (hi : i < 256) :
    col (levA (BitVec.ofNat 32 d) A) e i = col A e i * (if i < d then 1 else col A e (i - d)) := by
  rw [col, dif_pos hi, levA]
  show A (ix2 ⟨i, hi⟩ e) * shift (BitVec.ofNat 32 d) 0x3F800000#32 A (ix2 ⟨i, hi⟩ e) = _
  rw [shift_at d h1 hd, show col A e i = A (ix2 ⟨i, hi⟩ e) from dif_pos hi]
  refine congrArg (A (ix2 ⟨i, hi⟩ e) * ·) ?_
  show (if i < d then _ else _) = _
  rw [show Scalar.ofBits (F := Ideal) .f32 0x3F800000#32 = (1 : EReal) by pointwise]

theorem levU_at (d : ℕ) (h1 : 1 ≤ d) (hd : d ≤ 128) (A U : FVec Ideal S256x2048 .f32) (e : Fin 2048) (i : ℕ) (hi : i < 256) :
    col (levU (BitVec.ofNat 32 d) A U) e i = col A e i * (if i < d then 0 else col U e (i - d)) + col U e i := by
  rw [col, dif_pos hi, levU]
  show A (ix2 ⟨i, hi⟩ e) * shift (BitVec.ofNat 32 d) 0x00000000#32 U (ix2 ⟨i, hi⟩ e) + U (ix2 ⟨i, hi⟩ e) = _
  rw [shift_at d h1 hd]
  rw [show col A e i = A (ix2 ⟨i, hi⟩ e) from dif_pos hi, show col U e i = U (ix2 ⟨i, hi⟩ e) from dif_pos hi]
  refine congrArg (A (ix2 ⟨i, hi⟩ e) * · + U (ix2 ⟨i, hi⟩ e)) ?_
  show (if i < d then _ else _) = _
  rw [show Scalar.ofBits (F := Ideal) .f32 0x00000000#32 = (0 : EReal) by pointwise]

/-- The factors and the summands after `k` levels. -/
def lev (A U : FVec Ideal S256x2048 .f32) : ℕ → FVec Ideal S256x2048 .f32 × FVec Ideal S256x2048 .f32
  | 0 => (A, U)
  | k + 1 => (levA (BitVec.ofNat 32 (2 ^ k)) (lev A U k).1, levU (BitVec.ofNat 32 (2 ^ k)) (lev A U k).1 (lev A U k).2)

theorem lev_stands (A U : FVec Ideal S256x2048 .f32) (e : Fin 2048) (h : ∀ i, i < 256 → Unit01 (col A e i)) :
    ∀ k, k ≤ 8 → Stands (col A e) (col U e) (col (lev A U k).1 e) (col (lev A U k).2 e) 256 (2 ^ k)
  | 0, _ => Stands.one h
  | k + 1, hk => by
    have h1 : 1 ≤ 2 ^ k := Nat.one_le_two_pow
    have h2 : 2 ^ k ≤ 128 := (Nat.pow_le_pow_right (by decide) (by omega : k ≤ 7)).trans (by decide)
    rw [Nat.pow_succ, Nat.mul_two]
    exact (lev_stands A U e h k (by omega)).double (fun i hi => levA_at _ h1 h2 _ e i hi)
      (fun i hi => levU_at _ h1 h2 _ _ e i hi)

variable (v35 v156 v175 v183 : FVec Ideal S256x2048 .f32) (v188 : IVec S256x2048 1) (v189 : FVec Ideal S256x2048 .f32)
  (v313 : Vec Ideal S1x2048 .f32)

/-- The summands the scan starts from. -/
def inp : FVec Ideal S256x2048 .f32 := mulf (mulf v35 v156) (select v188 v189 v183)

theorem a2 : k0_pay38 v175 = (lev v175 (inp v35 v156 v183 v188 v189) 2).1 := rfl

theorem u3 : k0_pay39 v35 v156 v175 v183 v188 v189 = (lev v175 (inp v35 v156 v183 v188 v189) 3).2 := rfl

/-- The block after the scan, from the factors, the summands and the row carried into the block. -/
def scanned : FVec Ideal S256x2048 .f32 :=
  k0_pay45 (k0_pay43 (k0_pay38 v175) (k0_pay40 v175) (iota .tc S256x2048 32 [0] iota_S256x2048_d0_w32) 4#32)
    (k0_pay44 (k0_pay38 v175) (k0_pay39 v35 v156 v175 v183 v188 v189) (k0_pay40 v175)
      (iota .tc S256x2048 32 [0] iota_S256x2048_d0_w32) 4#32) 32#32 v313

theorem scanned_eq : scanned v35 v156 v175 v183 v188 v189 v313
    = addf (lev v175 (inp v35 v156 v183 v188 v189) 8).2
        (mulf (lev v175 (inp v35 v156 v183 v188 v189) 8).1 (broadcastTo S256x2048 v313 broadcasts_S1x2048_S256x2048)) := rfl

/-- Row `r` of the block holds the maps of the rows down to `r`, applied to the row carried in. -/
theorem scanned_at (e : Fin 2048) (h : ∀ r : Fin 256, Unit01 (v175 (ix2 r e))) (r : Fin 256) :
    scanned v35 v156 v175 v183 v188 v189 v313 (ix2 r e)
      = go (col v175 e) (col (inp v35 v156 v183 v188 v189) e) 0 (r + 1) (v313 (ix2 0 e)) := by
  rw [scanned_eq]
  have hs := (lev_stands v175 (inp v35 v156 v183 v188 v189) e (fun i hi => by rw [col, dif_pos hi]; exact h _) 8 le_rfl).all
    (by decide) r r.isLt (v313 (ix2 0 e))
  rw [← hs, col_at, col_at, add_comm]
  generalize (lev v175 (inp v35 v156 v183 v188 v189) 8).1 = A
  generalize (lev v175 (inp v35 v156 v183 v188 v189) 8).2 = U
  pointwise

end Cert.LruIdeal.Value

end
-- ==== Proof.LruGate.lean ====
/- The two gates of a block: sixteen square products side by side. -/
module

public import proofs.«01_k».proof.Proof.LruMath
public import proofs.«01_k».proof.Proof.Gen.LruIdeal.Value
public import Idealize.ShloMosaic.Lib.Pipeline.ValueKit
public import Idealize.ShloMosaic.Lib.Pointwise

@[expose] public section

set_option maxRecDepth 16384

noncomputable section

namespace Cert.LruIdeal.Value

open Cert.LruIdeal Cert.LruIdeal.Gen Cert.LruMath Idealize.ShloMosaic Idealize.ShloMosaic.TcCoe Idealize.SL.Sem

theorem cut (n : Fin 16) : S256x2048.Slices ![0, 128 * (n : ℕ)] S256x128 := by
  revert n; decide

/-- The columns of piece `n` times its weight. -/
def blk (X : FVec Ideal S256x2048 .bf16) (w : Vec Ideal S1x128x256 .bf16) (n : Fin 16) : FVec Ideal S256x256 .f32 :=
  matmul dot_S256x128_S128x256_S256x256_1_0_0_1_n_n none (extractStridedSlice S256x128 ![0, 128 * (n : ℕ)] X (cut n))
    (shapeCast S128x256 w shapeCasts_S1x128x256_S128x256 : FVec Ideal S128x256 .bf16) (constant S256x256 .f32 0x00000000#32)

theorem blk_at (X : FVec Ideal S256x2048 .bf16) (w : Vec Ideal S1x128x256 .bf16) (n : Fin 16) (r c : Fin 256) :
    blk X w n (ix2 r c) = ∑ d : Fin 128, X (ix2 r ⟨128 * n + d, by omega⟩) * w (ix3 0 d c) := by
  pointwise [blk]

/-- The first half of every piece, side by side. -/
def left (X : FVec Ideal S256x2048 .bf16) (w : Fin 16 → Vec Ideal S1x128x256 .bf16) : FVec Ideal S256x2048 .f32 :=
  concatenate S256x2048 1 (List.ofFn fun n : Fin 16 => (⟨S256x128,
      extractStridedSlice S256x128 ![0, 0] (blk X (w n) n) slices_S256x256_o0_0_S256x128⟩ : (s : Shape) × (s.Idx → EReal)))
    concatenates_S256x128_S256x128_S256x128_S256x128_S256x128_S256x128_S256x128_S256x128_S256x128_S256x128_S256x128_S256x128_S256x128_S256x128_S256x128_S256x128_S256x2048_d1

/-- The second half of every piece, side by side. -/
def right (X : FVec Ideal S256x2048 .bf16) (w : Fin 16 → Vec Ideal S1x128x256 .bf16) : FVec Ideal S256x2048 .f32 :=
  concatenate S256x2048 1 (List.ofFn fun n : Fin 16 => (⟨S256x128,
      extractStridedSlice S256x128 ![0, 128] (blk X (w n) n) slices_S256x256_o0_128_S256x128⟩ : (s : Shape) × (s.Idx → EReal)))
    concatenates_S256x128_S256x128_S256x128_S256x128_S256x128_S256x128_S256x128_S256x128_S256x128_S256x128_S256x128_S256x128_S256x128_S256x128_S256x128_S256x128_S256x2048_d1

/-- One gate's product at row `r`, column `e`, from the weights' columns `o` on. -/
def pre (X : FVec Ideal S256x2048 .bf16) (w : Fin 16 → Vec Ideal S1x128x256 .bf16) (o : ℕ) (ho : o ≤ 128) (r : Fin 256)
    (e : Fin 2048) : EReal :=
  ∑ d : Fin 128, X (ix2 r ⟨128 * ((e : ℕ) / 128) + d, by omega⟩)
    * w ⟨(e : ℕ) / 128, by omega⟩ (ix3 0 d ⟨o + (e : ℕ) % 128, by omega⟩)

theorem left_at (X : FVec Ideal S256x2048 .bf16) (w : Fin 16 → Vec Ideal S1x128x256 .bf16) (r : Fin 256) (e : Fin 2048) :
    left X w (ix2 r e) = pre X w 0 (by decide) r e := by
  have h := concatenate_ofFn_apply (t := S256x2048) (s₁ := S256x128) (1 : Fin 2)
    (fun n : Fin 16 => extractStridedSlice S256x128 ![0, 0] (blk X (w n) n) slices_S256x256_o0_0_S256x128)
    concatenates_S256x128_S256x128_S256x128_S256x128_S256x128_S256x128_S256x128_S256x128_S256x128_S256x128_S256x128_S256x128_S256x128_S256x128_S256x128_S256x128_S256x2048_d1
    rfl 128 rfl (ix2 r e) ⟨(e : ℕ) / 128, by omega⟩ rfl (ix2 r ⟨(e : ℕ) % 128, by omega⟩) rfl
    (fun b hb => by fin_cases b; exacts [rfl, absurd rfl hb])
  refine h.trans ?_
  refine Eq.trans ?_ (blk_at X (w ⟨(e : ℕ) / 128, by omega⟩) ⟨(e : ℕ) / 128, by omega⟩ r ⟨0 + (e : ℕ) % 128, by omega⟩)
  pointwise

theorem right_at (X : FVec Ideal S256x2048 .bf16) (w : Fin 16 → Vec Ideal S1x128x256 .bf16) (r : Fin 256) (e : Fin 2048) :
    right X w (ix2 r e) = pre X w 128 le_rfl r e := by
  have h := concatenate_ofFn_apply (t := S256x2048) (s₁ := S256x128) (1 : Fin 2)
    (fun n : Fin 16 => extractStridedSlice S256x128 ![0, 128] (blk X (w n) n) slices_S256x256_o0_128_S256x128)
    concatenates_S256x128_S256x128_S256x128_S256x128_S256x128_S256x128_S256x128_S256x128_S256x128_S256x128_S256x128_S256x128_S256x128_S256x128_S256x128_S256x128_S256x2048_d1
    rfl 128 rfl (ix2 r e) ⟨(e : ℕ) / 128, by omega⟩ rfl (ix2 r ⟨(e : ℕ) % 128, by omega⟩) rfl
    (fun b hb => by fin_cases b; exacts [rfl, absurd rfl hb])
  refine h.trans ?_
  refine Eq.trans ?_ (blk_at X (w ⟨(e : ℕ) / 128, by omega⟩) ⟨(e : ℕ) / 128, by omega⟩ r ⟨128 + (e : ℕ) % 128, by omega⟩)
  pointwise

variable (v29 v34 : FVec Ideal S256x2048 .f32) (w : Fin 16 → Vec Ideal S1x128x256 .bf16) (ba : Vec Ideal S1x2048 .f32)

/-- The recurrence gate. -/
def gateR : FVec Ideal S256x2048 .f32 :=
  k0_pay30 (k0_pay9 v29 v34) (k0_pay10 v29 v34 (w 0)) (k0_pay11 v29 v34 (w 1)) (k0_pay12 v29 v34 (w 2)) (k0_pay13 v29 v34 (w 3))
    (k0_pay14 v29 v34 (w 4)) (k0_pay15 v29 v34 (w 5)) (k0_pay16 v29 v34 (w 6)) (k0_pay18 (k0_pay17 v29 v34) (w 7))
    (k0_pay19 (k0_pay9 v29 v34) (w 8)) (k0_pay20 (k0_pay9 v29 v34) (w 9)) (k0_pay21 (k0_pay9 v29 v34) (w 10))
    (k0_pay22 (k0_pay9 v29 v34) (w 11)) (k0_pay23 (k0_pay9 v29 v34) (w 12)) (k0_pay24 (k0_pay9 v29 v34) (w 13))
    (k0_pay25 (k0_pay9 v29 v34)) (k0_pay26 (w 14)) (w 15) ba

/-- The product behind the input gate. -/
def preI : FVec Ideal S256x2048 .f32 :=
  k0_pay29 (k0_pay9 v29 v34) (k0_pay10 v29 v34 (w 0)) (k0_pay11 v29 v34 (w 1)) (k0_pay12 v29 v34 (w 2)) (k0_pay13 v29 v34 (w 3))
    (k0_pay14 v29 v34 (w 4)) (k0_pay15 v29 v34 (w 5)) (k0_pay16 v29 v34 (w 6)) (k0_pay18 (k0_pay17 v29 v34) (w 7))
    (k0_pay19 (k0_pay9 v29 v34) (w 8)) (k0_pay20 (k0_pay9 v29 v34) (w 9)) (k0_pay21 (k0_pay9 v29 v34) (w 10))
    (k0_pay22 (k0_pay9 v29 v34) (w 11)) (k0_pay23 (k0_pay9 v29 v34) (w 12)) (k0_pay24 (k0_pay9 v29 v34) (w 13))
    (k0_pay25 (k0_pay9 v29 v34)) (k0_pay26 (w 14)) (w 15)

theorem preI_eq : preI v29 v34 w = right (k0_pay9 v29 v34) w := rfl

theorem gateR_eq : gateR v29 v34 w ba = k0_pay31 (left (k0_pay9 v29 v34) w) ba := rfl

theorem gate_at (P : FVec Ideal S256x2048 .f32) (r : Fin 256) (e : Fin 2048) :
    k0_pay31 P ba (ix2 r e) = sigm (P (ix2 r e) + ba (ix2 0 e)) := by
  pointwise [k0_pay31, sigm]
  rw [zero_sub]

variable (rg : FVec Ideal S256x2048 .f32) (lam : Vec Ideal S1x2048 .f32)

theorem loga_at (r : Fin 256) (e : Fin 2048) :
    k0_pay32 rg lam (ix2 r e) = (-8 : EReal) * rg (ix2 r e) * softplus (lam (ix2 0 e)) := by
  pointwise [k0_pay32, softplus]
  rw [neg_eight, zero_sub, zero_sub, Ideal.absf_def]

theorem mult_at (r : Fin 256) (e : Fin 2048) :
    k0_pay34 rg lam (ix2 r e) = Ideal.sqrt (Ideal.tanh (-(k0_pay32 rg lam (ix2 r e)))
      * (1 + Ideal.exp (k0_pay32 rg lam (ix2 r e)) * Ideal.exp (k0_pay32 rg lam (ix2 r e)))) := by
  generalize h : k0_pay32 rg lam = L
  rw [k0_pay34, k0_pay33, h]
  pointwise
  rw [zero_sub]

end Cert.LruIdeal.Value

end
-- ==== Proof.LruTile.lean ====
/- A block of 256 rows, from the rows and the state kept of the block before it. -/
module

public import proofs.«01_k».proof.Proof.LruSpec
public import proofs.«01_k».proof.Proof.LruScan
public import proofs.«01_k».proof.Proof.LruGate

@[expose] public section

set_option maxRecDepth 16384

noncomputable section

namespace Cert.LruIdeal.Value

open Cert.LruIdeal Cert.LruIdeal.Gen Cert.LruMath Idealize.ShloMosaic Idealize.ShloMosaic.TcCoe Idealize.SL.Sem

variable (P : Par) (x y : ℕ → Fin 2048 → EReal) (b : ℕ)
  (x0 x1 : Vec Ideal S256x2048 .bf16) (xs0 : Vec Ideal S8x2048 .f32) (cb cw3 cw0 cw1 cw2 : Vec Ideal S1x2048 .f32)

/-- A row `d` above row `r` of the block, from the eight rows kept of the block before it where `r` is less than `d`. -/
theorem row_above (d : ℕ) (hd : 1 ≤ d) (hd2 : d ≤ 3) (r : Fin 256) (e : Fin 2048)
    (hx : ∀ (r : Fin 256) (e : Fin 2048), x0 (ix2 r e) = x (b + r) e)
    (hk : ∀ (q : Fin 8) (e : Fin 2048), xs0 (ix2 q e) = if 8 ≤ b + q then x (b + q - 8) e else 0) :
    (if h : (8 + (r : ℕ) + 264 - d) % 264 < 8 then xs0 (ix2 ⟨(8 + (r : ℕ) + 264 - d) % 264, h⟩ e)
      else x0 (ix2 ⟨(8 + (r : ℕ) + 264 - d) % 264 - 8, by omega⟩ e)) = above x d (b + r) e := by
  have hr := r.isLt
  have h' : (8 + (r : ℕ) + 264 - d) % 264 = 8 + r - d := by omega
  by_cases h : (8 + (r : ℕ) + 264 - d) % 264 < 8
  · rw [dif_pos h, hk, above]
    show (if 8 ≤ b + (8 + (r : ℕ) + 264 - d) % 264 then x (b + (8 + (r : ℕ) + 264 - d) % 264 - 8) e else 0) = _
    rw [h']
    by_cases h'' : d ≤ b + r
    · rw [if_pos h'', if_pos (by omega), show b + (8 + (r : ℕ) - d) - 8 = b + r - d by omega]
    · rw [if_neg h'', if_neg (by omega)]
  · rw [dif_neg h, hx, above, if_pos (by omega)]
    show x (b + ((8 + (r : ℕ) + 264 - d) % 264 - 8)) e = _
    rw [show b + ((8 + (r : ℕ) + 264 - d) % 264 - 8) = b + r - d by omega]

/-- The convolved block, before and after its last tap. -/
theorem conv_at
    (hx : ∀ (r : Fin 256) (e : Fin 2048), x0 (ix2 r e) = x (b + r) e)
    (hk : ∀ (q : Fin 8) (e : Fin 2048), xs0 (ix2 q e) = if 8 ≤ b + q then x (b + q - 8) e else 0)
    (hcb : ∀ e : Fin 2048, cb (ix2 0 e) = P.cb e) (h0 : ∀ e : Fin 2048, cw0 (ix2 0 e) = P.cw 0 e)
    (h1 : ∀ e : Fin 2048, cw1 (ix2 0 e) = P.cw 1 e) (h2 : ∀ e : Fin 2048, cw2 (ix2 0 e) = P.cw 2 e)
    (h3 : ∀ e : Fin 2048, cw3 (ix2 0 e) = P.cw 3 e) (r : Fin 256) (e : Fin 2048) :
    k0_pay8 (F := Ideal) (k0_pay6 x0 xs0 cb cw3 cw0 cw1) (k0_pay7 x0 xs0 cw2) (ix2 r e) = conv P x (b + r) e := by
  pointwise [k0_pay8, k0_pay6, k0_pay7, k0_pay4, k0_pay3]
  have a3 := row_above x b x0 xs0 3 (by decide) (by decide) r e hx hk
  have a2 := row_above x b x0 xs0 2 (by decide) (by decide) r e hx hk
  have a1 := row_above x b x0 xs0 1 (by decide) (by decide) r e hx hk
  rw [a3, a2, a1, hcb, h0, h1, h2, h3, hx]
  rfl

theorem off_lt {o c : ℕ} (ho : o ≤ 128) (hc : c < 128) : o + c < 256 := by omega

variable (v29 v34 : FVec Ideal S256x2048 .f32) (w : Fin 16 → Vec Ideal S1x128x256 .bf16)
  (ba bx lam nw h0 : Vec Ideal S1x2048 .f32) (v0 : BitVec 1)
  (hc : ∀ (r : Fin 256) (e : Fin 2048), k0_pay8 v29 v34 (ix2 r e) = conv P x (b + r) e)
  (hwa : ∀ (n : Fin 16) (d c : Fin 128), w n (ix3 0 d ⟨0 + c, off_lt (Nat.zero_le _) c.isLt⟩) = P.wa n d c)
  (hwx : ∀ (n : Fin 16) (d c : Fin 128), w n (ix3 0 d ⟨128 + c, off_lt le_rfl c.isLt⟩) = P.wx n d c)
  (hba : ∀ e : Fin 2048, ba (ix2 0 e) = P.ba e) (hbx : ∀ e : Fin 2048, bx (ix2 0 e) = P.bx e)
  (hlam : ∀ e : Fin 2048, lam (ix2 0 e) = P.lam e)

include hc in
/-- One gate's product of the block. -/
theorem pre_at (o : ℕ) (ho : o ≤ 128) (W : Fin 16 → Fin 128 → Fin 128 → EReal)
    (hw : ∀ (n : Fin 16) (d c : Fin 128), w n (ix3 0 d ⟨o + c, off_lt ho c.isLt⟩) = W n d c) (r : Fin 256) (e : Fin 2048) :
    pre (k0_pay9 v29 v34) w o ho r e = lin P x W (b + r) e :=
  Finset.sum_congr rfl fun d _ => congrArg₂ (· * ·) (hc r _) (hw _ d ⟨(e : ℕ) % 128, Nat.mod_lt _ (by decide)⟩)

include hc hwa hba in
theorem gateR_at (r : Fin 256) (e : Fin 2048) :
    gateR v29 v34 w ba (ix2 r e) = sigm (lin P x P.wa (b + r) e + P.ba e) := by
  rw [gateR_eq, gate_at, left_at, hba, pre_at P x b v29 v34 w hc 0 (by decide) P.wa hwa]

include hc hwx hbx in
theorem gateI_at (r : Fin 256) (e : Fin 2048) :
    k0_pay31 (preI v29 v34 w) bx (ix2 r e) = sigm (lin P x P.wx (b + r) e + P.bx e) := by
  rw [preI_eq, gate_at, right_at, hbx, pre_at P x b v29 v34 w hc 128 le_rfl P.wx hwx]

include hc hwa hba hlam in
theorem logA_at (r : Fin 256) (e : Fin 2048) :
    k0_pay32 (gateR v29 v34 w ba) lam (ix2 r e) = logA (lin P x P.wa (b + r) e + P.ba e) (P.lam e) := by
  rw [loga_at, gateR_at P x b v29 v34 w ba hc hwa hba, hlam, logA]

include hc hwa hba hlam in
theorem aa_at (r : Fin 256) (e : Fin 2048) :
    k0_pay33 (gateR v29 v34 w ba) lam (ix2 r e) = aa P x e (b + r) := by
  rw [aa, decay, ← logA_at P x b v29 v34 w ba lam hc hwa hba hlam]
  rfl

include hc hwa hba hlam in
theorem scale_at (r : Fin 256) (e : Fin 2048) :
    k0_pay34 (gateR v29 v34 w ba) lam (ix2 r e)
      = Ideal.sqrt (-(Ideal.exp (2 * logA (lin P x P.wa (b + r) e + P.ba e) (P.lam e)) - 1)) := by
  rw [mult_at, logA_at P x b v29 v34 w ba lam hc hwa hba hlam, tanh_expm1 _ (logA_nonpos _ _)]

/-- The flag of the first row of a sequence. -/
theorem first_at (hv : v0 = if b = 0 then 1#1 else 0#1) (A B : EReal) (r : Fin 256) (e : Fin 2048) :
    Scalar.select (k0_pay35 v0 (ix2 r e)) A B = if b + (r : ℕ) = 0 then A else B := by
  have hr := r.isLt
  have h : k0_pay35 v0 (ix2 r e) = v0 &&& BitVec.ofBool (decide ((r : ℕ) = 0)) := by
    pointwise [k0_pay35]
    show v0 &&& BitVec.ofBool (BitVec.ofNat 32 (r : ℕ) == 0#32) = _
    congr 2
    rw [Bool.beq_eq_decide_eq]
    refine decide_eq_decide.mpr ⟨fun h => ?_, fun h => by rw [h]⟩
    have := congrArg BitVec.toNat h
    rw [BitVec.toNat_ofNat, Nat.mod_eq_of_lt (by omega)] at this
    exact this
  rw [h, hv]
  by_cases hb : b = 0
  · by_cases h0 : (r : ℕ) = 0
    · rw [if_pos hb, decide_eq_true h0, if_pos (by omega)]; rfl
    · rw [if_pos hb, decide_eq_false h0, if_neg (by omega)]; rfl
  · by_cases h0 : (r : ℕ) = 0
    · rw [if_neg hb, decide_eq_true h0, if_neg (by omega)]; rfl
    · rw [if_neg hb, decide_eq_false h0, if_neg (by omega)]; rfl

include hc hwa hwx hba hbx hlam in
theorem uu_at (hv : v0 = if b = 0 then 1#1 else 0#1) (r : Fin 256) (e : Fin 2048) :
    inp (k0_pay8 v29 v34) (k0_pay31 (preI v29 v34 w) bx) (k0_pay34 (gateR v29 v34 w ba) lam) (k0_pay35 v0) k0_pay36
      (ix2 r e) = uu P x e (b + r) := by
  have h : inp (k0_pay8 v29 v34) (k0_pay31 (preI v29 v34 w) bx) (k0_pay34 (gateR v29 v34 w ba) lam) (k0_pay35 v0) k0_pay36
      (ix2 r e) = k0_pay8 v29 v34 (ix2 r e) * k0_pay31 (preI v29 v34 w) bx (ix2 r e)
        * Scalar.select (k0_pay35 v0 (ix2 r e)) (k0_pay36 (F := Ideal) (ix2 r e))
          (k0_pay34 (gateR v29 v34 w ba) lam (ix2 r e)) := rfl
  rw [h, first_at b v0 hv, hc, gateI_at P x b v29 v34 w bx hc hwx hbx,
    scale_at P x b v29 v34 w ba lam hc hwa hba hlam, show k0_pay36 (F := Ideal) (ix2 r e) = (1 : EReal) by pointwise [k0_pay36]]
  rfl

/-- The state of the block. -/
def state : FVec Ideal S256x2048 .f32 :=
  scanned (k0_pay8 v29 v34) (k0_pay31 (preI v29 v34 w) bx) (k0_pay33 (gateR v29 v34 w ba) lam)
    (k0_pay34 (gateR v29 v34 w ba) lam) (k0_pay35 v0) k0_pay36 h0

include hc hwa hwx hba hbx hlam in
theorem state_at (hv : v0 = if b = 0 then 1#1 else 0#1)
    (hh0 : ∀ e : Fin 2048, h0 (ix2 0 e) = go (aa P x e) (uu P x e) 0 b 0) (r : Fin 256) (e : Fin 2048) :
    state v29 v34 w ba bx lam h0 v0 (ix2 r e) = hh P x (b + r) e := by
  have ha := aa_at P x b v29 v34 w ba lam hc hwa hba hlam
  have hu := uu_at P x b v29 v34 w ba bx lam v0 hc hwa hwx hba hbx hlam hv
  rw [state, scanned_at _ _ _ _ _ _ _ e (fun r => by rw [ha]; exact decay_unit _ _) r, hh0]
  have hr := r.isLt
  rw [hh, Nat.add_assoc, go_add (aa P x e) (uu P x e) 0 b ((r : ℕ) + 1), Nat.zero_add b]
  refine go_congr _ fun i hi => ⟨?_, ?_⟩
  · rw [Nat.zero_add, col, dif_pos (by omega)]; exact ha ⟨i, by omega⟩ e
  · rw [Nat.zero_add, col, dif_pos (by omega)]; exact hu ⟨i, by omega⟩ e

/-- The rows of the result. -/
theorem out_at (H : FVec Ideal S256x2048 .f32) (hH : ∀ (r : Fin 256) (e : Fin 2048), H (ix2 r e) = hh P x (b + r) e)
    (hy : ∀ (r : Fin 256) (e : Fin 2048), x1 (ix2 r e) = y (b + r) e) (hnw : ∀ e : Fin 2048, nw (ix2 0 e) = P.nw e)
    (r : Fin 256) (e : Fin 2048) : k0_pay48 H x1 nw (ix2 r e) = res P x y (b + r) e := by
  pointwise [k0_pay48]
  simp only [hH, hy, hnw]
  rfl

end Cert.LruIdeal.Value

end
-- ==== Proof.LruPoint.lean ====
/- One grid point of the recurrence: the rows it writes and what it keeps for the next. -/
module

public import proofs.«01_k».proof.Proof.LruTile
public import Idealize.ShloMosaic.Lib.Pipeline.ReadBack

@[expose] public section

set_option maxRecDepth 16384

noncomputable section

namespace Cert.LruIdeal.Value

open Cert.LruIdeal Cert.LruIdeal.Gen Cert.LruMath Idealize.ShloMosaic Idealize.ShloMosaic.TcCoe Idealize.SL.Sem

variable (P : Par) (x y : ℕ → Fin 2048 → EReal) (b : ℕ)
variable (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S16x128x256 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S8x2048 .f32) (harg12 : arg12.IsWhole) (arg13 : Memref sig .tc .vmem S8x2048 .f32) (harg13 : arg13.IsWhole)
    (x0 : Vec Ideal S256x2048 .bf16) (x1 : Vec Ideal S256x2048 .bf16) (x2 : Vec Ideal S4x2048 .f32) (x3 : Vec Ideal S1x2048 .f32) (x4 : Vec Ideal S16x128x256 .bf16) (x5 : Vec Ideal S1x2048 .f32) (x6 : Vec Ideal S1x2048 .f32) (x7 : Vec Ideal S1x2048 .f32) (x8 : Vec Ideal S1x2048 .f32) (xs0 : Vec Ideal S8x2048 .f32) (xs1 : Vec Ideal S8x2048 .f32)
  (hx : ∀ (r : Fin 256) (e : Fin 2048), x0 (ix2 r e) = x (b + r) e)
  (hy : ∀ (r : Fin 256) (e : Fin 2048), x1 (ix2 r e) = y (b + r) e)
  (hcw : ∀ (k : Fin 4) (e : Fin 2048), x2 (ix2 k e) = P.cw k e) (hcb : ∀ e : Fin 2048, x3 (ix2 0 e) = P.cb e)
  (hwa : ∀ (n : Fin 16) (d c : Fin 128), x4 (ix3 n d ⟨0 + c, off_lt (Nat.zero_le _) c.isLt⟩) = P.wa n d c)
  (hwx : ∀ (n : Fin 16) (d c : Fin 128), x4 (ix3 n d ⟨128 + c, off_lt le_rfl c.isLt⟩) = P.wx n d c)
  (hba : ∀ e : Fin 2048, x5 (ix2 0 e) = P.ba e) (hbx : ∀ e : Fin 2048, x6 (ix2 0 e) = P.bx e)
  (hlam : ∀ e : Fin 2048, x7 (ix2 0 e) = P.lam e) (hnw : ∀ e : Fin 2048, x8 (ix2 0 e) = P.nw e)
  (hk : ∀ (q : Fin 8) (e : Fin 2048), xs0 (ix2 q e) = if 8 ≤ b + q then x (b + q - 8) e else 0)
  (hh0 : ∀ (q : Fin 8) (e : Fin 2048), xs1 (ix2 q e) = go (aa P x e) (uu P x e) 0 b 0)

/-- Is this the first block of a sequence? -/
theorem flag (hb : cond0_0 i ↔ b = 0) :
    Scalar.cmpi .eq (BitVec.ofNat 32 ((i 1 : Fin _) : ℕ)) 0#32 = if b = 0 then 1#1 else 0#1 := by
  have h : ∀ X : BitVec 1, (Scalar.cmpi .ne (Scalar.extui X) 0#32 = 1#1) ↔ X = 1#1 := by decide
  have h1 : ∀ X : BitVec 1, X = 1#1 ∨ X = 0#1 := by decide
  have hb' := (h _).symm.trans hb
  by_cases h0 : b = 0
  · rw [if_pos h0]; exact hb'.mpr h0
  · rw [if_neg h0]; exact (h1 _).resolve_left fun hX => h0 (hb'.mp hX)

/-- The last row of a block, eight times over. -/
theorem last_row (v267 v275 : FVec Ideal S256x2048 .f32) (d : BitVec 32) (h0 : Vec Ideal S1x2048 .f32) (q : Fin 8) (e : Fin 2048) :
    k0_pay47 (k0_pay46 v267 v275 d h0) (ix2 q e) = k0_pay45 v267 v275 d h0 (ix2 ⟨255, by decide⟩ e) := by
  unfold k0_pay47 k0_pay46
  generalize k0_pay45 v267 v275 d h0 = H
  pointwise

include hx hcw hcb hk in
/-- The convolved block, from the parameters as they are loaded. -/
theorem conv_pt (cw3 cw0 cw1 cw2 : Vec Ideal S1x2048 .f32) (h0 : ∀ e : Fin 2048, cw0 (ix2 0 e) = x2 (ix2 0 e))
    (h1 : ∀ e : Fin 2048, cw1 (ix2 0 e) = x2 (ix2 1 e)) (h2 : ∀ e : Fin 2048, cw2 (ix2 0 e) = x2 (ix2 2 e))
    (h3 : ∀ e : Fin 2048, cw3 (ix2 0 e) = x2 (ix2 3 e)) (r : Fin 256) (e : Fin 2048) :
    k0_pay8 (F := Ideal) (k0_pay6 x0 xs0 x3 cw3 cw0 cw1) (k0_pay7 x0 xs0 cw2) (ix2 r e) = conv P x (b + r) e :=
  conv_at P x b x0 xs0 x3 cw3 cw0 cw1 cw2 hx hk hcb (fun e => (h0 e).trans (hcw 0 e)) (fun e => (h1 e).trans (hcw 1 e))
    (fun e => (h2 e).trans (hcw 2 e)) (fun e => (h3 e).trans (hcw 3 e)) r e

include hx hcw hcb hwa hwx hba hbx hlam hk in
/-- The state of the block, from the parameters as they are loaded. -/
theorem state_pt (hb : cond0_0 i ↔ b = 0) (w : Fin 16 → Vec Ideal S1x128x256 .bf16) (cw3 cw0 cw1 cw2 h0 : Vec Ideal S1x2048 .f32)
    (hw : ∀ (n : Fin 16) (d : Fin 128) (j : Fin 256), w n (ix3 0 d j) = x4 (ix3 n d j))
    (k0 : ∀ e : Fin 2048, cw0 (ix2 0 e) = x2 (ix2 0 e)) (k1 : ∀ e : Fin 2048, cw1 (ix2 0 e) = x2 (ix2 1 e))
    (k2 : ∀ e : Fin 2048, cw2 (ix2 0 e) = x2 (ix2 2 e)) (k3 : ∀ e : Fin 2048, cw3 (ix2 0 e) = x2 (ix2 3 e))
    (hh0 : ∀ e : Fin 2048, h0 (ix2 0 e) = go (aa P x e) (uu P x e) 0 b 0) (r : Fin 256) (e : Fin 2048) :
    state (k0_pay6 x0 xs0 x3 cw3 cw0 cw1) (k0_pay7 x0 xs0 cw2) w x5 x6 x7 h0
      (Scalar.cmpi .eq (BitVec.ofNat 32 ((i 1 : Fin _) : ℕ)) 0#32) (ix2 r e) = hh P x (b + r) e :=
  state_at P x b _ _ w _ _ _ _ _ (conv_pt P x b x0 x2 x3 xs0 hx hcw hcb hk _ _ _ _ k0 k1 k2 k3)
    (fun n d c => (hw n d _).trans (hwa n d c)) (fun n d c => (hw n d _).trans (hwx n d c)) hba hbx hlam (flag b i hb) hh0 r e

include hx hy hcw hcb hwa hwx hba hbx hlam hnw hk hh0 in
theorem outB (hc0 : ¬cond0_0 i) (hb : cond0_0 i ↔ b = 0) (r : Fin 256) (e : Fin 2048) :
    out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix2 r e) = res P x y (b + r) e := by
  frame_out
  refine out_at P x y b x1 x8 _ (fun r e => ?_) hy hnw r e
  refine state_pt P x b i x0 x2 x3 x4 x5 x6 x7 xs0 hx hcw hcb hwa hwx hba hbx hlam hk hb ![_, _, _, _, _, _, _, _, _, _, _, _, _, _, _, _] _ _ _ _ _ ?_ ?_ ?_ ?_ ?_ ?_ r e
  · intro n d j; fin_cases n <;> pointwise
  · intro e; pointwise
  · intro e; pointwise
  · intro e; pointwise
  · intro e; pointwise
  · intro e; refine Eq.trans ?_ (hh0 0 e); pointwise

include hx in
theorem keepB (hc0 : ¬cond0_0 i) (q : Fin 8) (e : Fin 2048) :
    sout0_B_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix2 q e) = x (b + 248 + q) e := by
  frame_out
  pointwise [k0_pay5, k0_pay3]
  rw [hx]
  exact congrArg (x · e) (Nat.add_assoc _ _ _).symm

include hx hy hcw hcb hwa hwx hba hbx hlam hnw hk hh0 in
theorem lastB (hc0 : ¬cond0_0 i) (hb : cond0_0 i ↔ b = 0) (q : Fin 8) (e : Fin 2048) :
    sout0_B_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix2 q e) = hh P x (b + 255) e := by
  frame_out
  refine (last_row _ _ _ _ q e).trans ?_
  refine state_pt P x b i x0 x2 x3 x4 x5 x6 x7 xs0 hx hcw hcb hwa hwx hba hbx hlam hk hb ![_, _, _, _, _, _, _, _, _, _, _, _, _, _, _, _] _ _ _ _ _ ?_ ?_ ?_ ?_ ?_ ?_ ⟨255, by decide⟩ e
  · intro n d j; fin_cases n <;> pointwise
  · intro e; pointwise
  · intro e; pointwise
  · intro e; pointwise
  · intro e; pointwise
  · intro e; refine Eq.trans ?_ (hh0 0 e); pointwise

/-- The rows kept before the first block. -/
theorem kept_zero (hb : b = 0) (q : Fin 8) (e : Fin 2048) :
    k0_pay1 (F := Ideal) (ix2 q e) = if 8 ≤ b + (q : ℕ) then x (b + q - 8) e else 0 := by
  rw [if_neg (by omega)]
  pointwise [k0_pay1]

/-- The state before the first block. -/
theorem last_zero (hb : b = 0) (h0 : Vec Ideal S1x2048 .f32)
    (hh : ∀ e : Fin 2048, h0 (ix2 0 e) = k0_pay2 (F := Ideal) (ix2 0 e)) (e : Fin 2048) :
    h0 (ix2 0 e) = go (aa P x e) (uu P x e) 0 b 0 := by
  rw [hb, hh e]
  show _ = (0 : EReal)
  pointwise [k0_pay2]

include hx hy hcw hcb hwa hwx hba hbx hlam hnw in
theorem outA (hc0 : cond0_0 i) (hb : cond0_0 i ↔ b = 0) (r : Fin 256) (e : Fin 2048) :
    out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 r e) = res P x y (b + r) e := by
  frame_out
  refine out_at P x y b x1 x8 _ (fun r e => ?_) hy hnw r e
  refine state_pt P x b i x0 x2 x3 x4 x5 x6 x7 (k0_pay1 (F := Ideal)) hx hcw hcb hwa hwx hba hbx hlam (kept_zero x b (hb.mp hc0)) hb ![_, _, _, _, _, _, _, _, _, _, _, _, _, _, _, _] _ _ _ _ _ ?_ ?_ ?_ ?_ ?_ ?_ r e
  · intro n d j; fin_cases n <;> pointwise
  · intro e; pointwise
  · intro e; pointwise
  · intro e; pointwise
  · intro e; pointwise
  · intro e; exact last_zero P x b (hb.mp hc0) _ (fun e => (congrFun (View.readCov_fill _ _ _ [] _ (by decide)) _).trans (by pointwise)) e

include hx in
theorem keepA (hc0 : cond0_0 i) (q : Fin 8) (e : Fin 2048) :
    sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 q e) = x (b + 248 + q) e := by
  frame_out
  pointwise [k0_pay5, k0_pay3]
  rw [hx]
  exact congrArg (x · e) (Nat.add_assoc _ _ _).symm

include hx hy hcw hcb hwa hwx hba hbx hlam hnw in
theorem lastA (hc0 : cond0_0 i) (hb : cond0_0 i ↔ b = 0) (q : Fin 8) (e : Fin 2048) :
    sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 q e) = hh P x (b + 255) e := by
  frame_out
  refine (last_row _ _ _ _ q e).trans ?_
  refine state_pt P x b i x0 x2 x3 x4 x5 x6 x7 (k0_pay1 (F := Ideal)) hx hcw hcb hwa hwx hba hbx hlam (kept_zero x b (hb.mp hc0)) hb ![_, _, _, _, _, _, _, _, _, _, _, _, _, _, _, _] _ _ _ _ _ ?_ ?_ ?_ ?_ ?_ ?_ ⟨255, by decide⟩ e
  · intro n d j; fin_cases n <;> pointwise
  · intro e; pointwise
  · intro e; pointwise
  · intro e; pointwise
  · intro e; pointwise
  · intro e; exact last_zero P x b (hb.mp hc0) _ (fun e => (congrFun (View.readCov_fill _ _ _ [] _ (by decide)) _).trans (by pointwise)) e

end Cert.LruIdeal.Value

end
-- ==== Proof.LruState.lean ====
/- The recurrence along the grid: what every point writes, and what it keeps for the next. -/
module

public import proofs.«01_k».proof.Proof.LruPoint

@[expose] public section

set_option maxRecDepth 16384

noncomputable section

namespace Cert.LruIdeal.Value

open Cert.LruIdeal Cert.LruIdeal.Gen Cert.LruMath Idealize.ShloMosaic Idealize.ShloMosaic.TcCoe Idealize.SL.Sem

/-- Where the blocks of each window sit at point `t`. -/
theorem idx : ∀ t : Fin cfg0.N, win0_0.index t = ![t.val, 4] ∧ win0_1.index t = ![t.val, 5]
    ∧ win0_2.index t = ![0, 0] ∧ win0_3.index t = ![0, 0] ∧ win0_4.index t = ![0, 0, 0]
    ∧ win0_5.index t = ![0, 0] ∧ win0_6.index t = ![0, 0] ∧ win0_7.index t = ![0, 0] ∧ win0_8.index t = ![0, 0]
    ∧ win0_9.index t = ![t.val, 0] :=
  (by decide +kernel : ∀ t : Fin grid0.N, _)

theorem pt (t : Fin cfg0.N) : t.val < 64 := t.isLt

variable (m : (ℓ : Loc nD τ sig) → Buf (Elt Ideal) ℓ) (c : Dev nD) (t : Fin cfg0.N)

theorem blk0 (r : Fin 256) (e : Fin 2048) : iblk m c 0 t (ix2 r e)
    = m ((c : Thread nD τ).loc main_arg0) (ix2 ⟨t.val * 256 + r, by have := pt t; omega⟩ ⟨8192 + e, by omega⟩) := by
  blk_point [iblk, V, idx t]

theorem blk1 (r : Fin 256) (e : Fin 2048) : iblk m c 1 t (ix2 r e)
    = m ((c : Thread nD τ).loc main_arg0) (ix2 ⟨t.val * 256 + r, by have := pt t; omega⟩ ⟨10240 + e, by omega⟩) := by
  blk_point [iblk, V, idx t]

theorem blk2 (k : Fin 4) (e : Fin 2048) : iblk m c 2 t (ix2 k e) = m ((c : Thread nD τ).loc main_arg1) (ix2 k e) := by
  blk_point [iblk, V, idx t]

theorem blk3 (e : Fin 2048) : iblk m c 3 t (ix2 0 e) = m ((c : Thread nD τ).loc main_arg2) (ix1 e) := by
  blk_point [iblk, V, idx t]

theorem blk4 (n : Fin 16) (d : Fin 128) (j : Fin 256) : iblk m c 4 t (ix3 n d j)
    = if h : (j : ℕ) < 128 then m ((c : Thread nD τ).loc main_arg3) (ix3 n d ⟨j, h⟩)
      else m ((c : Thread nD τ).loc main_arg5) (ix3 n d ⟨j - 128, by omega⟩) := by
  have e : (win0_4.blk t).view.emb (ix3 n d j) = ix3 n d j := by blk_ext [idx t]
  blk_simp [iblk, V]
  rw [e]
  after_results
  pointwise

theorem blk4a (n : Fin 16) (d j : Fin 128) : iblk m c 4 t (ix3 n d ⟨0 + j, off_lt (Nat.zero_le _) j.isLt⟩)
    = m ((c : Thread nD τ).loc main_arg3) (ix3 n d j) := by
  rw [blk4, dif_pos (by show 0 + (j : ℕ) < 128; omega)]
  congr 2
  exact Fin.ext (Nat.zero_add _)

theorem blk4x (n : Fin 16) (d j : Fin 128) : iblk m c 4 t (ix3 n d ⟨128 + j, off_lt le_rfl j.isLt⟩)
    = m ((c : Thread nD τ).loc main_arg5) (ix3 n d j) := by
  rw [blk4, dif_neg (by show ¬ 128 + (j : ℕ) < 128; omega)]
  congr 2
  exact Fin.ext (Nat.add_sub_cancel_left _ _)

theorem blk5 (e : Fin 2048) : iblk m c 5 t (ix2 0 e) = m ((c : Thread nD τ).loc main_arg4) (ix1 e) := by
  blk_point [iblk, V, idx t]

theorem blk6 (e : Fin 2048) : iblk m c 6 t (ix2 0 e) = m ((c : Thread nD τ).loc main_arg6) (ix1 e) := by
  blk_point [iblk, V, idx t]

theorem blk7 (e : Fin 2048) : iblk m c 7 t (ix2 0 e) = m ((c : Thread nD τ).loc main_arg7) (ix1 e) := by
  blk_point [iblk, V, idx t]

theorem blk8 (e : Fin 2048) : iblk m c 8 t (ix2 0 e) = m ((c : Thread nD τ).loc main_arg8) (ix1 e) := by
  blk_point [iblk, V, idx t]

/-- The parameters a run starts from. -/
def par : Par where
  cw k e := m ((c : Thread nD τ).loc main_arg1) (ix2 k e)
  cb e := m ((c : Thread nD τ).loc main_arg2) (ix1 e)
  wa n d j := m ((c : Thread nD τ).loc main_arg3) (ix3 n d j)
  ba e := m ((c : Thread nD τ).loc main_arg4) (ix1 e)
  wx n d j := m ((c : Thread nD τ).loc main_arg5) (ix3 n d j)
  bx e := m ((c : Thread nD τ).loc main_arg6) (ix1 e)
  lam e := m ((c : Thread nD τ).loc main_arg7) (ix1 e)
  nw e := m ((c : Thread nD τ).loc main_arg8) (ix1 e)

/-- Row `s` of sequence `B`, from column `o` on. -/
def rows (o : ℕ) (ho : o + 2048 ≤ 12288) (B s : ℕ) (e : Fin 2048) : EReal :=
  if h : B * 2048 + s < 16384 then m ((c : Thread nD τ).loc main_arg0) (ix2 ⟨B * 2048 + s, h⟩ ⟨o + e, by omega⟩) else 0

abbrev xs (B : ℕ) : ℕ → Fin 2048 → EReal := rows m c 8192 (by decide) B
abbrev ys (B : ℕ) : ℕ → Fin 2048 → EReal := rows m c 10240 (by decide) B

theorem xs_at (r : Fin 256) (e : Fin 2048) : iblk m c 0 t (ix2 r e) = xs m c (t.val / 8) (256 * (t.val % 8) + r) e := by
  have ht := pt t
  rw [blk0, xs, rows, dif_pos (by omega)]
  congr 2
  exact Fin.ext (by show t.val * 256 + (r : ℕ) = t.val / 8 * 2048 + (256 * (t.val % 8) + r); omega)

theorem ys_at (r : Fin 256) (e : Fin 2048) : iblk m c 1 t (ix2 r e) = ys m c (t.val / 8) (256 * (t.val % 8) + r) e := by
  have ht := pt t
  rw [blk1, ys, rows, dif_pos (by omega)]
  congr 2
  exact Fin.ext (by show t.val * 256 + (r : ℕ) = t.val / 8 * 2048 + (256 * (t.val % 8) + r); omega)

/-- What point `n` leaves: the rows of the result, the last eight rows of the input, and the state after the last row. -/
def Left (n : ℕ) (o : Vec Ideal S256x2048 .bf16 × Vec Ideal S8x2048 .f32 × Vec Ideal S8x2048 .f32) : Prop :=
  (∀ (r : Fin 256) (e : Fin 2048), o.1 (ix2 r e) = res (par m c) (xs m c (n / 8)) (ys m c (n / 8)) (256 * (n % 8) + r) e)
  ∧ (∀ (q : Fin 8) (e : Fin 2048), o.2.1 (ix2 q e) = xs m c (n / 8) (256 * (n % 8) + 248 + q) e)
  ∧ ∀ (q : Fin 8) (e : Fin 2048), o.2.2 (ix2 q e) = hh (par m c) (xs m c (n / 8)) (256 * (n % 8) + 255) e

theorem cond_iff : cond0_0 (grid0.coords t) ↔ 256 * (t.val % 8) = 0 := (hcond0_0 t).trans (by omega)

attribute [local irreducible] out0_A_9 sout0_A_0 sout0_A_1 out0_B_9 sout0_B_0 sout0_B_1 iblk

/-- The first point of a sequence. -/
theorem left_first (h0 : t.val % 8 = 0) (acc) : Left m c t.val (stAt0 m c t.val t.isLt acc) := by
  rw [stAt0_A m c t acc h0]
  refine ⟨fun r e => ?_, fun q e => ?_, fun q e => ?_⟩ <;> dsimp only
  · exact outA (P := par m c) (hx := xs_at m c t) (hy := ys_at m c t) (hcw := blk2 m c t) (hcb := blk3 m c t) (hwa := blk4a m c t)
      (hwx := blk4x m c t) (hba := blk5 m c t) (hbx := blk6 m c t) (hlam := blk7 m c t) (hnw := blk8 m c t) (hb := cond_iff t) (r := r) (e := e) ..
  · exact keepA (hx := xs_at m c t) (q := q) (e := e) ..
  · exact lastA (P := par m c) (hx := xs_at m c t) (hy := ys_at m c t) (hcw := blk2 m c t) (hcb := blk3 m c t) (hwa := blk4a m c t)
      (hwx := blk4x m c t) (hba := blk5 m c t) (hbx := blk6 m c t) (hlam := blk7 m c t) (hnw := blk8 m c t) (hb := cond_iff t) (q := q) (e := e) ..

/-- The points after it. -/
theorem left_next (h0 : ¬ t.val % 8 = 0) (acc) (h : Left m c (t.val - 1) acc) : Left m c t.val (stAt0 m c t.val t.isLt acc) := by
  have e8 : (t.val - 1) / 8 = t.val / 8 := by omega
  have eb : 256 * ((t.val - 1) % 8) + 256 = 256 * (t.val % 8) := by omega
  obtain ⟨-, hk, hl⟩ := h
  rw [e8] at hk hl
  have hk' : ∀ (q : Fin 8) (e : Fin 2048), acc.2.1 (ix2 q e)
      = if 8 ≤ 256 * (t.val % 8) + (q : ℕ) then xs m c (t.val / 8) (256 * (t.val % 8) + q - 8) e else 0 := fun q e => by
    rw [hk, if_pos (by omega), ← eb]
    congr 1
    omega
  have hl' : ∀ (q : Fin 8) (e : Fin 2048), acc.2.2 (ix2 q e)
      = go (aa (par m c) (xs m c (t.val / 8)) e) (uu (par m c) (xs m c (t.val / 8)) e) 0 (256 * (t.val % 8)) 0 := fun q e => by
    rw [hl, ← eb]
    rfl
  rw [stAt0_B m c t acc h0]
  refine ⟨fun r e => ?_, fun q e => ?_, fun q e => ?_⟩ <;> dsimp only
  · exact outB (P := par m c) (hx := xs_at m c t) (hy := ys_at m c t) (hcw := blk2 m c t) (hcb := blk3 m c t) (hwa := blk4a m c t)
      (hwx := blk4x m c t) (hba := blk5 m c t) (hbx := blk6 m c t) (hlam := blk7 m c t) (hnw := blk8 m c t) (hk := hk') (hh0 := hl') (hb := cond_iff t) (r := r) (e := e) ..
  · exact keepB (hx := xs_at m c t) (q := q) (e := e) ..
  · exact lastB (P := par m c) (hx := xs_at m c t) (hy := ys_at m c t) (hcw := blk2 m c t) (hcb := blk3 m c t) (hwa := blk4a m c t)
      (hwx := blk4x m c t) (hba := blk5 m c t) (hbx := blk6 m c t) (hlam := blk7 m c t) (hnw := blk8 m c t) (hk := hk') (hh0 := hl') (hb := cond_iff t) (q := q) (e := e) ..

/-- Every point. -/
theorem left_all : ∀ (n : ℕ) (hn : n < cfg0.N), Left m c n (outsAt0 m c n hn)
  | 0, hn => by
    rw [outsAt0_zero]
    exact left_first m c ⟨0, hn⟩ rfl _
  | n + 1, hn => by
    rw [outsAt0_succ]
    by_cases h0 : (n + 1) % 8 = 0
    · exact left_first m c ⟨n + 1, hn⟩ h0 _
    · exact left_next m c ⟨n + 1, hn⟩ h0 _ (left_all n _)

/-- The result, row by row. -/
theorem G9_at (R : Fin 16384) (e : Fin 2048) : G9 m c (ix2 R e)
    = res (par m c) (xs m c ((R : ℕ) / 2048)) (ys m c ((R : ℕ) / 2048)) ((R : ℕ) % 2048) e := by
  have hR := R.isLt
  have hp : pt9Of (ix2 R e) = (R : ℕ) / 256 := by
    have he := e.isLt
    show 1 * ((R : ℕ) / 256 - 0) + 1 * ((e : ℕ) / 2048 - 0) = _
    omega
  have hN : (R : ℕ) / 256 < cfg0.N := by rw [show cfg0.N = 64 from N_0]; omega
  have h := left_all m c _ hN
  rw [outsAt0_sweep] at h
  have hl : loc9Of (ix2 R e) = ix2 ⟨(R : ℕ) % 256, Nat.mod_lt _ (by decide)⟩ e := by
    funext a
    match a with
    | ⟨0, _⟩ => rfl
    | ⟨1, _⟩ => exact Fin.ext (Nat.mod_eq_of_lt e.isLt)
  rw [G9, dif_pos (by rw [hp]; exact hN), fold0_congr m c _ _ _ (by omega) hp, hl, h.1]
  rw [show (R : ℕ) / 256 / 8 = R / 2048 by omega, show 256 * ((R : ℕ) / 256 % 8) + R % 256 = R % 2048 by omega]

end Cert.LruIdeal.Value

end
-- ==== Proof.LruValue.lean ====
/- The gated linear recurrence: the kernel's result against the reference's. -/
module

public import proofs.«01_k».proof.Proof.LruState
public import proofs.«01_k».proof.Proof.LruLoop

@[expose] public section

set_option maxRecDepth 16384

noncomputable section

namespace Cert.LruIdeal.Value

open Cert.LruIdeal Cert.LruIdeal.Gen Cert.LruMath Idealize.ShloMosaic Idealize.ShloMosaic.TcCoe Idealize.SL.Sem

variable (m : (ℓ : Loc nD τ sig) → Buf (Elt Ideal) ℓ) (c : Dev nD)

/-- The states of the reference's loop from the kernel's arguments. -/
abbrev states : ℕ → Cert.LruRefIdeal.Step.State Ideal :=
  Cert.LruRef.it (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The two results are one array. -/
theorem final : G9 m c = Cert.LruRefIdeal.Step.R_main_v114 (states m c 2048) (m ((c : Thread nD τ).loc main_arg0))
    (m ((c : Thread nD τ).loc main_arg8)) := by
  funext p
  rw [eq_ix2 p]
  refine (G9_at m c _ _).trans ?_
  exact (Cert.LruRef.ref_at _ _ _ _ _ _ _ _ _ _ _).symm

end Cert.LruIdeal.Value

end
-- ==== Proof.HeadNorm.lean ====
/- The first norm: blocks of rows against the whole array. -/
module

public import proofs.«01_k».proof.Proof.Gen.HeadIdeal.Frame
public import proofs.«01_k».proof.Proof.Gen.HeadRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.HeadIdeal.Value

open Cert.HeadIdeal Cert.HeadIdeal.Gen Idealize.ShloMosaic Idealize.ShloMosaic.TcCoe Idealize.SL.Sem
open Idealize.ShloMosaic.Pipeline (Dat)
open Cert.HeadRefIdeal.Read

variable (V : (c : Dev nD) → (b : Ref sig .tc) → Buf (Elt Ideal) ((c : Thread nD τ).loc b))

/-- Where the blocks of each window of the first launch sit at point `t`. -/
theorem idx0 : ∀ t : Fin cfg0.N, win0_0.index t = ![t.val, 0] ∧ win0_1.index t = ![0, 0] ∧ win0_2.index t = ![t.val, 0] :=
  (by decide +kernel : ∀ t : Fin grid0.N, _)

section
variable (x1 : FVec Ideal S4096 .f32)

/-- What the first launch's body stores at `y` of its block is the reference at the index where `y` sits. -/
theorem point0 (c : Dev nD) (hw : ∀ j : Fin 4096, V c main_v0 (ix2 0 j) = x1 (ix1 j)) (t : Fin cfg0.N) (y) :
    k0_pay1 (iblk0 V c 0 t) (iblk0 V c 1 t) y
      = val_main_v12 (F := Ideal) (V c main_arg0) x1 (((cfg0.win 2).blk t).view.emb y) := by
  have ht : t.val < 32 := t.isLt
  idx_vars y
  have e : (((cfg0.win 2).blk t).view.emb (ix2 y0 y1)) = ix2 (⟨t.val * 512 + y0, by omega⟩ : Fin 16384) y1 := by
    blk_ext [idx0 t]
  rw [e]
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12]
  simp only [← hw]
  blk_point [iblk0, idx0 t]

/-- What the first launch leaves: the normed rows. -/
theorem launch0_eq (c : Dev nD) (hw : ∀ j : Fin 4096, V c main_v0 (ix2 0 j) = x1 (ix1 j)) :
    (dat0 V c).arrAt 2 cfg0.N = val_main_v12 (F := Ideal) (V c main_arg0) x1 := by
  refine (dat0 V c).arrAt_eq_of_covers 2 _ (by decide +kernel) fun t _ y => ?_
  blk_simp
  rw [after0_2]; frame_out
  exact point0 V x1 c hw t y

end

end Cert.HeadIdeal.Value

end
-- ==== Proof.HeadProj.lean ====
/- The input projection: tile by tile against one product. -/
module

public import proofs.«01_k».proof.Proof.Gen.HeadIdeal.Frame
public import proofs.«01_k».proof.Proof.Gen.HeadRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.HeadIdeal.Value

open Cert.HeadIdeal Cert.HeadIdeal.Gen Idealize.ShloMosaic Idealize.ShloMosaic.TcCoe Idealize.SL.Sem
open Idealize.ShloMosaic.Pipeline (Dat)
open Cert.HeadRefIdeal.Read

variable (V : (c : Dev nD) → (b : Ref sig .tc) → Buf (Elt Ideal) ((c : Thread nD τ).loc b))

attribute [local irreducible] val_main_v12

/-- Where the blocks of each window of the second launch sit at point `t`. -/
theorem idx1 : ∀ t : Fin cfg1.N, win1_0.index t = ![t.val / 12, 0] ∧ win1_1.index t = ![0, t.val % 12] ∧ win1_2.index t = ![t.val / 12, t.val % 12] :=
  (by decide +kernel : ∀ t : Fin grid1.N, _)

section
variable (x0 : FVec Ideal S16384x4096 .f32) (x1 : FVec Ideal S4096 .f32) (x2 : FVec Ideal S4096x12288 .f32)

/-- What the second launch's body stores at `y` of its block is the reference at the index where `y` sits. -/
theorem point1 (c : Dev nD) (hx : V c main_v1 = val_main_v12 (F := Ideal) x0 x1) (hw : V c main_v2 = x2)
    (t : Fin cfg1.N) (y) :
    k1_pay1 (iblk1 V c 0 t) (iblk1 V c 1 t) y
      = val_main_v14 (F := Ideal) x0 x1 x2 (((cfg1.win 2).blk t).view.emb y) := by
  pointwise [k1_pay1, val_main_v13, val_main_v14]
  simp only [← hx, ← hw]
  blk_point [iblk1, idx1 t]

/-- What the second launch leaves: the projections. -/
theorem launch1_eq (c : Dev nD) (hx : V c main_v1 = val_main_v12 (F := Ideal) x0 x1) (hw : V c main_v2 = x2) :
    (dat1 V c).arrAt 2 cfg1.N = val_main_v14 (F := Ideal) x0 x1 x2 := by
  refine (dat1 V c).arrAt_eq_of_covers 2 _ (by decide +kernel) fun t _ y => ?_
  blk_simp
  rw [after1_2]; frame_out
  exact point1 V x0 x1 x2 c hx hw t y

end

end Cert.HeadIdeal.Value

end
-- ==== Proof.HeadValue.lean ====
/- The joined norm and input projection: what each launch finds and leaves, and the result against the reference's. -/
module

public import proofs.«01_k».proof.Proof.HeadNorm
public import proofs.«01_k».proof.Proof.HeadProj

@[expose] public section

set_option maxRecDepth 16384

noncomputable section

namespace Cert.HeadIdeal.Value

open Cert.HeadIdeal Cert.HeadIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.HeadRefIdeal.Read

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result ends at the last boundary's contents and the arguments as they were. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end

section
variable (m : (ℓ : Loc nD τ sig) → Buf (Elt Ideal) ℓ) (ρ : Dev nD → PrngReg) (c : Dev nD)

/-- A vector read as one row. -/
theorem row_at (x : FVec Ideal S4096 .f32) (j : Fin 4096) :
    shapeCast S1x4096 x shapeCasts_S4096_S1x4096 (ix2 0 j) = x (ix1 j) := by
  pointwise

/-- The norm's weights as the first launch reads them. -/
theorem V1_v0 (j : Fin 4096) : V1 m ρ c main_v0 (ix2 0 j) = m ((c : Thread nD τ).loc main_arg1) (ix1 j) := by
  have e : V1 m ρ c main_v0 = shapeCast S1x4096 (m ((c : Thread nD τ).loc main_arg1)) shapeCasts_S4096_S1x4096 := by
    show StableHlo.after hostOps0 (W0 m ρ c) (Proc.devRef .tc main_v0) = _
    after_results; try rfl
  rw [e]; exact row_at _ j

/-- The normed rows after the first launch. -/
theorem W2_v1 : W2 m ρ c (Proc.devRef .tc main_v1)
    = val_main_v12 (F := Ideal) (m ((c : Thread nD τ).loc main_arg0)) (m ((c : Thread nD τ).loc main_arg1)) := by
  refine (W2_arr m ρ c 2).trans ((launch0_eq (V1 m ρ) _ c (V1_v0 m ρ c)).trans ?_)
  rw [show V1 m ρ c main_arg0 = _ from W1_args m ρ c main_arg0 (by decide)]

/-- The projection's weights as the second launch reads them. -/
theorem V3_v2 : V3 m ρ c main_v2 = m ((c : Thread nD τ).loc main_arg2) := by
  refine Eq.trans ?_ (W2_args m ρ c main_arg2 (by decide))
  show StableHlo.after hostOps1 (W2 m ρ c) (Proc.devRef .tc main_v2) = _
  after_results; try rfl

/-- The program's result is the reference's term of the arguments. -/
theorem final : W4 m ρ c (Proc.devRef .tc main_v3)
    = val_main_v14 (F := Ideal) (m ((c : Thread nD τ).loc main_arg0)) (m ((c : Thread nD τ).loc main_arg1))
        (m ((c : Thread nD τ).loc main_arg2)) :=
  (W4_arr m ρ c 2).trans (launch1_eq (V3 m ρ) _ _ _ c
    ((W3_of m ρ c main_v1 (by decide)).trans (W2_v1 m ρ c)) (V3_v2 m ρ c))

end

end Cert.HeadIdeal.Value

end
-- ==== Proof.TailOut.lean ====
/- The output projection of the joined program: two products over halves of the rows, against one product of the joined row. -/
module

public import proofs.«01_k».proof.Proof.Gen.TailIdeal.Frame
public import proofs.«01_k».proof.Proof.Gen.TailRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.TailIdeal.Value

open Cert.TailIdeal Cert.TailIdeal.Gen Idealize.ShloMosaic Idealize.ShloMosaic.TcCoe Idealize.SL.Sem
open Idealize.ShloMosaic.Pipeline (Dat)
open Cert.TailRefIdeal.Read

variable (V : (c : Dev nD) → (b : Ref sig .tc) → Buf (Elt Ideal) ((c : Thread nD τ).loc b))

/-- Where the blocks of each window of the first launch sit at point `t`. -/
theorem idx0 : ∀ t : Fin cfg0.N, win0_0.index t = ![t.val / 4, 0] ∧ win0_1.index t = ![t.val / 4, 0] ∧ win0_2.index t = ![0, t.val % 4] ∧ win0_3.index t = ![1, t.val % 4] ∧ win0_4.index t = ![t.val / 4, t.val % 4] ∧ win0_5.index t = ![t.val / 4, t.val % 4] :=
  (by decide +kernel : ∀ t : Fin grid0.N, _)

/-- What the body stores at `y` of its block is the reference at the index where `y` sits. -/
theorem point0 (c : Dev nD) (t : Fin cfg0.N) (y) :
    k0_pay1 (iblk0 V c 0 t) (iblk0 V c 2 t) (iblk0 V c 1 t) (iblk0 V c 3 t) (iblk0 V c 4 t) y
      = val_main_v3 (F := Ideal) (V c main_arg0) (V c main_arg1) (V c main_v0) (V c main_arg3)
          (((cfg0.win 5).blk t).view.emb y) := by
  pointwise [k0_pay1, val_main_v0, val_main_v1, val_main_v2, val_main_v3]
  blk_point [iblk0, idx0 t]

/-- What the first launch leaves: the residual stream after the mixers. -/
theorem launch0_eq (c : Dev nD) : (dat0 V c).arrAt 5 cfg0.N
    = val_main_v3 (F := Ideal) (V c main_arg0) (V c main_arg1) (V c main_v0) (V c main_arg3) := by
  refine (dat0 V c).arrAt_eq_of_covers 5 _ (by decide +kernel) fun t _ y => ?_
  blk_simp
  rw [after0_5]; frame_out
  exact point0 V c t y

end Cert.TailIdeal.Value

end
-- ==== Proof.TailNorm.lean ====
/- The two norms of the joined program: blocks of rows against the whole array. -/
module

public import proofs.«01_k».proof.Proof.Gen.TailIdeal.Frame
public import proofs.«01_k».proof.Proof.Gen.TailRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.TailIdeal.Value

open Cert.TailIdeal Cert.TailIdeal.Gen Idealize.ShloMosaic Idealize.ShloMosaic.TcCoe Idealize.SL.Sem
open Idealize.ShloMosaic.Pipeline (Dat)
open Cert.TailRefIdeal.Read

variable (V : (c : Dev nD) → (b : Ref sig .tc) → Buf (Elt Ideal) ((c : Thread nD τ).loc b))

attribute [local irreducible] val_main_v3 val_main_v49

/-- Where the blocks of each window of the second launch sit at point `t`. -/
theorem idx1 : ∀ t : Fin cfg1.N, win1_0.index t = ![t.val, 0] ∧ win1_1.index t = ![0, 0] ∧ win1_2.index t = ![t.val, 0] :=
  (by decide +kernel : ∀ t : Fin grid1.N, _)

/-- Where the blocks of each window of the last launch sit at point `t`. -/
theorem idx4 : ∀ t : Fin cfg4.N, win4_0.index t = ![t.val, 0] ∧ win4_1.index t = ![0, 0] ∧ win4_2.index t = ![t.val, 0] :=
  (by decide +kernel : ∀ t : Fin grid4.N, _)

section
variable (x0 x1 : FVec Ideal S16384x2048 .bf16) (x2 : FVec Ideal S4096x4096 .f32) (x3 : FVec Ideal S16384x4096 .f32)
  (x4 : FVec Ideal S4096 .f32) (x5 : FVec Ideal S4096x22016 .f32) (x6 : FVec Ideal S3x22016 .f32) (x7 : FVec Ideal S22016 .f32)
  (x8 : FVec Ideal S11008x4096 .f32) (x9 : FVec Ideal S4096 .f32)

/-- What the second launch's body stores at `y` of its block is the reference at the index where `y` sits. -/
theorem point1 (c : Dev nD) (hx : V c main_v1 = val_main_v3 (F := Ideal) x0 x1 x2 x3)
    (hw : ∀ j : Fin 4096, V c main_v2 (ix2 0 j) = x4 (ix1 j)) (t : Fin cfg1.N) (y) :
    k1_pay1 (iblk1 V c 0 t) (iblk1 V c 1 t) y
      = val_main_v16 (F := Ideal) x0 x1 x2 x3 x4 (((cfg1.win 2).blk t).view.emb y) := by
  have ht : t.val < 32 := t.isLt
  idx_vars y
  have e : (((cfg1.win 2).blk t).view.emb (ix2 y0 y1)) = ix2 (⟨t.val * 512 + y0, by omega⟩ : Fin 16384) y1 := by
    blk_ext [idx1 t]
  rw [e]
  pointwise [k1_pay1, val_main_v4, val_main_cst, val_main_v5, val_main_v6, val_main_cst_0, val_main_v7, val_main_v8, val_main_cst_1, val_main_v9, val_main_v10, val_main_v11, val_main_v12, val_main_v13, val_main_v14, val_main_v15, val_main_v16]
  simp only [← hx, ← hw]
  blk_point [iblk1, idx1 t]

/-- What the second launch leaves: the norm of the residual stream. -/
theorem launch1_eq (c : Dev nD) (hx : V c main_v1 = val_main_v3 (F := Ideal) x0 x1 x2 x3)
    (hw : ∀ j : Fin 4096, V c main_v2 (ix2 0 j) = x4 (ix1 j)) :
    (dat1 V c).arrAt 2 cfg1.N = val_main_v16 (F := Ideal) x0 x1 x2 x3 x4 := by
  refine (dat1 V c).arrAt_eq_of_covers 2 _ (by decide +kernel) fun t _ y => ?_
  blk_simp
  rw [after1_2]; frame_out
  exact point1 V x0 x1 x2 x3 x4 c hx hw t y

/-- What the last launch's body stores at `y` of its block is the reference at the index where `y` sits. -/
theorem point4 (c : Dev nD) (hx : V c main_v8 = val_main_v49 (F := Ideal) x0 x1 x2 x3 x4 x5 x6 x7 x8)
    (hw : ∀ j : Fin 4096, V c main_v9 (ix2 0 j) = x9 (ix1 j)) (t : Fin cfg4.N) (y) :
    k4_pay1 (iblk4 V c 0 t) (iblk4 V c 1 t) y
      = val_main_v62 (F := Ideal) x0 x1 x2 x3 x4 x5 x6 x7 x8 x9 (((cfg4.win 2).blk t).view.emb y) := by
  have ht : t.val < 32 := t.isLt
  idx_vars y
  have e : (((cfg4.win 2).blk t).view.emb (ix2 y0 y1)) = ix2 (⟨t.val * 512 + y0, by omega⟩ : Fin 16384) y1 := by
    blk_ext [idx4 t]
  rw [e]
  pointwise [k4_pay1, val_main_v50, val_main_cst_2, val_main_v51, val_main_v52, val_main_cst_3, val_main_v53, val_main_v54, val_main_cst_4, val_main_v55, val_main_v56, val_main_v57, val_main_v58, val_main_v59, val_main_v60, val_main_v61, val_main_v62]
  simp only [← hx, ← hw]
  blk_point [iblk4, idx4 t]

/-- What the last launch leaves: the result. -/
theorem launch4_eq (c : Dev nD) (hx : V c main_v8 = val_main_v49 (F := Ideal) x0 x1 x2 x3 x4 x5 x6 x7 x8)
    (hw : ∀ j : Fin 4096, V c main_v9 (ix2 0 j) = x9 (ix1 j)) :
    (dat4 V c).arrAt 2 cfg4.N = val_main_v62 (F := Ideal) x0 x1 x2 x3 x4 x5 x6 x7 x8 x9 := by
  refine (dat4 V c).arrAt_eq_of_covers 2 _ (by decide +kernel) fun t _ y => ?_
  blk_simp
  rw [after4_2]; frame_out
  exact point4 V x0 x1 x2 x3 x4 x5 x6 x7 x8 x9 c hx hw t y

end

end Cert.TailIdeal.Value

end
-- ==== Proof.UpPiece.lean ====
/- One piece of the up projection: 256 rows of the convolved product and its gate. -/
module

public import proofs.«01_k».proof.Proof.Gen.UpIdeal.Value
public import Idealize.ShloMosaic.Lib.Pipeline.ValueKit
public import Idealize.ShloMosaic.Lib.Pointwise

@[expose] public section

set_option maxRecDepth 16384

noncomputable section

namespace Cert.UpIdeal.Value

open Cert.UpIdeal Cert.UpIdeal.Gen Idealize.ShloMosaic Idealize.ShloMosaic.TcCoe Idealize.SL.Sem

/-- Row `r` of the block times column `c` of a weight block. -/
def lin (X : FVec Ideal S2048x4096 .bf16) (W : FVec Ideal S4096x256 .bf16) (r : ℕ) (c : Fin 256) : EReal :=
  if h : r < 2048 then ∑ k : Fin 4096, X (ix2 ⟨r, h⟩ k) * W (ix2 k c) else 0

/-- The convolution of width 3 down the rows, zero before the first. -/
def cv (X : FVec Ideal S2048x4096 .bf16) (W : FVec Ideal S4096x256 .bf16) (K : FVec Ideal S3x256 .f32)
    (B : FVec Ideal S1x256 .f32) (r : ℕ) (c : Fin 256) : EReal :=
  B (ix2 0 c) + lin X W r c * K (ix2 2 c) + (if 2 ≤ r then lin X W (r - 2) c else 0) * K (ix2 0 c)
    + (if 1 ≤ r then lin X W (r - 1) c else 0) * K (ix2 1 c)

/-- The gate of one column times the value of the other. -/
def act (g v : EReal) : EReal := g * Ideal.div 1 (1 + Ideal.exp (0 - g)) * v

variable (x0 : FVec Ideal S2048x4096 .bf16) (x1 x2 : FVec Ideal S4096x256 .bf16) (x3 x4 : FVec Ideal S3x256 .f32)
  (x5 x6 : FVec Ideal S1x256 .f32)

/-- A row `d` above row `r` of a piece that starts at row `b`: from the eight rows kept of the piece before
    where `r` is less than `d`, and zero above the first row of the block. -/
theorem tap (W : FVec Ideal S4096x256 .bf16) (P : Fin 8 → EReal) (d b : ℕ) (hd : 1 ≤ d) (hd2 : d ≤ 2)
    (hb : b + 256 ≤ 2048) (r c : Fin 256)
    (hP : ∀ q : Fin 8, 6 ≤ (q : ℕ) → P q = if 8 ≤ b + q then lin x0 W (b + q - 8) c else 0) :
    (if h : (8 + (r : ℕ) + 264 - d) % 264 < 8 then P ⟨(8 + (r : ℕ) + 264 - d) % 264, h⟩
      else ∑ x, x0 (ix2 ⟨b + ((8 + (r : ℕ) + 264 - d) % 264 - 8), by omega⟩ x) * W (ix2 x c))
      = if d ≤ b + r then lin x0 W (b + r - d) c else 0 := by
  have hr := r.isLt
  have e : (8 + (r : ℕ) + 264 - d) % 264 = 8 + r - d := by omega
  by_cases h : (8 + (r : ℕ) + 264 - d) % 264 < 8
  · rw [dif_pos h, hP _ (by show 6 ≤ (8 + (r : ℕ) + 264 - d) % 264; omega)]
    show (if 8 ≤ b + (8 + (r : ℕ) + 264 - d) % 264 then lin x0 W (b + (8 + (r : ℕ) + 264 - d) % 264 - 8) c else 0) = _
    rw [e]
    by_cases h' : d ≤ b + r
    · rw [if_pos h', if_pos (by omega), show b + (8 + (r : ℕ) - d) - 8 = b + r - d by omega]
    · rw [if_neg h', if_neg (by omega)]
  · rw [dif_neg h, if_pos (by omega), lin, dif_pos (by omega)]
    refine Finset.sum_congr rfl fun x _ => ?_
    congr 3
    exact Fin.ext (by show b + ((8 + (r : ℕ) + 264 - d) % 264 - 8) = b + r - d; omega)

/-- A piece of 256 rows from row `b`, from the rows kept of the piece before it and its own. -/
theorem piece (b : ℕ) (hb : b + 256 ≤ 2048) (prev : FVec Ideal S8x512 .f32) (cur : FVec Ideal S256x4096 .bf16)
    (hcur : ∀ (r : Fin 256) (k : Fin 4096), cur (ix2 r k) = x0 (ix2 ⟨b + r, by omega⟩ k))
    (hg : ∀ (q : Fin 8) (c : Fin 256), 6 ≤ (q : ℕ) →
      prev (ix2 q ⟨c, by omega⟩) = if 8 ≤ b + q then lin x0 x1 (b + q - 8) c else 0)
    (hv : ∀ (q : Fin 8) (c : Fin 256), 6 ≤ (q : ℕ) →
      prev (ix2 q ⟨256 + c, by omega⟩) = if 8 ≤ b + q then lin x0 x2 (b + q - 8) c else 0)
    (r c : Fin 256) :
    k0_pay14 (F := Ideal) (k0_pay2 x1 x2) (k0_pay3 x3 x4) (k0_pay4 x5 x6) prev cur (ix2 r c)
      = act (cv x0 x1 x3 x5 (b + r) c) (cv x0 x2 x4 x6 (b + r) c) := by
  pointwise [k0_pay14, k0_pay12, k0_pay2, k0_pay3, k0_pay4, hcur]
  have g2 := tap x0 x1 (fun q => prev (ix2 q ⟨c, by omega⟩)) 2 b (by decide) (by decide) hb r c fun q hq => hg q c hq
  have g1 := tap x0 x1 (fun q => prev (ix2 q ⟨c, by omega⟩)) 1 b (by decide) (by decide) hb r c fun q hq => hg q c hq
  have v2 := tap x0 x2 (fun q => prev (ix2 q ⟨256 + c, by omega⟩)) 2 b (by decide) (by decide) hb r c fun q hq => hv q c hq
  have v1 := tap x0 x2 (fun q => prev (ix2 q ⟨256 + c, by omega⟩)) 1 b (by decide) (by decide) hb r c fun q hq => hv q c hq
  have l1 : lin x0 x1 (b + r) c = ∑ x, x0 (ix2 ⟨b + r, by omega⟩ x) * x1 (ix2 x c) := dif_pos (by omega)
  have l2 : lin x0 x2 (b + r) c = ∑ x, x0 (ix2 ⟨b + r, by omega⟩ x) * x2 (ix2 x c) := dif_pos (by omega)
  beta_reduce at g2 g1 v2 v1
  rw [g2, g1, v2, v1, ← l1, ← l2]
  rfl

/-- The rows kept of a piece that starts at row `b`. -/
theorem kept (b : ℕ) (hb : b + 256 ≤ 2048) (cur : FVec Ideal S256x4096 .bf16)
    (hcur : ∀ (r : Fin 256) (k : Fin 4096), cur (ix2 r k) = x0 (ix2 ⟨b + r, by omega⟩ k)) (q : Fin 8) (c : Fin 256) :
    k0_pay13 (F := Ideal) (k0_pay2 x1 x2) cur (ix2 q ⟨c, by omega⟩)
        = (if 8 ≤ b + 256 + q then lin x0 x1 (b + 256 + q - 8) c else 0) ∧
      k0_pay13 (F := Ideal) (k0_pay2 x1 x2) cur (ix2 q ⟨256 + c, by omega⟩)
        = (if 8 ≤ b + 256 + q then lin x0 x2 (b + 256 + q - 8) c else 0) := by
  have e : b + 256 + (q : ℕ) - 8 = b + (248 + q) := by omega
  rw [if_pos (by omega), if_pos (by omega), e, lin, lin, dif_pos (by omega), dif_pos (by omega)]
  constructor <;> pointwise [k0_pay13, k0_pay12, k0_pay2, hcur]

/-- A piece read at the row and column of the block where it is stored. -/
theorem piece_at (b : ℕ) (hb : b + 256 ≤ 2048) (prev : FVec Ideal S8x512 .f32) (cur : FVec Ideal S256x4096 .bf16)
    (hcur : ∀ (r : Fin 256) (k : Fin 4096), cur (ix2 r k) = x0 (ix2 ⟨b + r, by omega⟩ k))
    (hk : ∀ (q : Fin 8) (c : Fin 256), 6 ≤ (q : ℕ) →
      prev (ix2 q ⟨c, by omega⟩) = (if 8 ≤ b + q then lin x0 x1 (b + q - 8) c else 0) ∧
      prev (ix2 q ⟨256 + c, by omega⟩) = (if 8 ≤ b + q then lin x0 x2 (b + q - 8) c else 0))
    (x : S256x256.Idx) (y : S2048x256.Idx) (h0 : (y 0 : ℕ) = b + x 0) (h1 : (y 1 : ℕ) = x 1) :
    k0_pay14 (F := Ideal) (k0_pay2 x1 x2) (k0_pay3 x3 x4) (k0_pay4 x5 x6) prev cur x
      = act (cv x0 x1 x3 x5 (y 0) (y 1)) (cv x0 x2 x4 x6 (y 0) (y 1)) := by
  have hy : y 1 = x 1 := Fin.ext h1
  rw [h0, hy, eq_ix2 x]
  exact piece x0 x1 x2 x3 x4 x5 x6 b hb prev cur hcur (fun q c hq => (hk q c hq).1) (fun q c hq => (hk q c hq).2) (x 0) (x 1)

/-- A piece after the first: the rows kept are those of the piece before it. -/
theorem next (b b' : ℕ) (e : b' = b + 256) (hb : b' + 256 ≤ 2048) (bef cur : FVec Ideal S256x4096 .bf16)
    (hbef : ∀ (r : Fin 256) (k : Fin 4096), bef (ix2 r k) = x0 (ix2 ⟨b + r, by omega⟩ k))
    (hcur : ∀ (r : Fin 256) (k : Fin 4096), cur (ix2 r k) = x0 (ix2 ⟨b' + r, by omega⟩ k))
    (x : S256x256.Idx) (y : S2048x256.Idx) (h0 : (y 0 : ℕ) = b' + x 0) (h1 : (y 1 : ℕ) = x 1) :
    k0_pay14 (F := Ideal) (k0_pay2 x1 x2) (k0_pay3 x3 x4) (k0_pay4 x5 x6) (k0_pay13 (k0_pay2 x1 x2) bef) cur x
      = act (cv x0 x1 x3 x5 (y 0) (y 1)) (cv x0 x2 x4 x6 (y 0) (y 1)) := by
  subst e
  exact piece_at x0 x1 x2 x3 x4 x5 x6 (b + 256) (by omega) _ cur hcur
    (fun q c _ => kept x0 x1 x2 b (by omega) bef hbef q c) x y h0 h1

section
variable (v4 : FVec Ideal S4096x512 .bf16) (v7 : FVec Ideal S3x512 .f32) (v12 : FVec Ideal S1x512 .f32)
  (p : FVec Ideal S8x512 .f32) (a b : FVec Ideal S256x4096 .bf16)

/- The eight pieces are the same lines: each is read as the second one. -/

theorem eq0 : k0_pay1 v7 (k0_pay37 v4 a b) (k0_pay38 v4 v7 v12 b) (k0_pay39 v4 a b) (k0_pay40 v7)
    = k0_pay14 v4 v7 v12 (k0_pay13 v4 a) b := rfl
theorem eq1 : k0_pay35 v4 v7 v12 p b = k0_pay14 v4 v7 v12 p b := rfl
theorem eq2 : k0_pay33 v4 v7 v12 p b = k0_pay14 v4 v7 v12 p b := rfl
theorem eq3 : k0_pay30 (k0_pay27 v4 v7 v12 p b) (k0_pay28 v4 v7 v12 p b) (k0_pay29 v4 v7 v12 p b)
    = k0_pay14 v4 v7 v12 p b := rfl
theorem eq4 : k0_pay23 v7 (k0_pay18 v4 a b) (k0_pay20 v4 v7 v12 b) (k0_pay21 v4 a b) (k0_pay22 v7)
    = k0_pay14 v4 v7 v12 (k0_pay13 v4 a) b := rfl
theorem eq5 : k0_pay16 v4 v7 v12 p b = k0_pay14 v4 v7 v12 p b := rfl
theorem eq7 : k0_pay11 (F := Ideal) (k0_pay8 (F := Ideal) x1 x2 x3 x4 x5 x6 b) (k0_pay9 (F := Ideal) x1 x2 x3 x4 x5 x6 b) (k0_pay10 (F := Ideal) x1 x2 x3 x4 x5 x6 b)
    = k0_pay14 (F := Ideal) (k0_pay2 x1 x2) (k0_pay3 x3 x4) (k0_pay4 x5 x6) (broadcast S8x512 (Scalar.ofBits .f32 0x00000000#32)) b := rfl
theorem keq1 : k0_pay32 v4 a = k0_pay13 v4 a := rfl
theorem keq2 : k0_pay25 v4 a = k0_pay13 v4 a := rfl
theorem keq3 : k0_pay19 v4 a = k0_pay13 v4 a := rfl
theorem keq6 : k0_pay6 (F := Ideal) x1 x2 a = k0_pay13 (F := Ideal) (k0_pay2 x1 x2) a := rfl

end

/-- What a point leaves in its block of the output. -/
theorem out_at (y : S2048x256.Idx) :
    out0_7 (F := Ideal) x0 x1 x2 x3 x4 x5 x6 y
      = act (cv x0 x1 x3 x5 (y 0) (y 1)) (cv x0 x2 x4 x6 (y 0) (y 1)) := by
  unfold_out out0_7
  frame_out
  canon_tiles x h
  case piece7 =>
    rw [eq7]
    refine piece_at x0 x1 x2 x3 x4 x5 x6 0 (by decide) _ _ ?_ ?_ x y (by omega) (by omega)
    · intro r k; pointwise
    · intro q c hq; pointwise
  case piece0 =>
    rw [eq0]
    refine next x0 x1 x2 x3 x4 x5 x6 1536 1792 (by omega) (by omega) _ _ ?_ ?_ x y (by omega) (by omega) <;> intro r k <;> pointwise
  case piece1 =>
    rw [eq1, keq1]
    refine next x0 x1 x2 x3 x4 x5 x6 1280 1536 (by omega) (by omega) _ _ ?_ ?_ x y (by omega) (by omega) <;> intro r k <;> pointwise
  case piece2 =>
    rw [eq2, keq2]
    refine next x0 x1 x2 x3 x4 x5 x6 1024 1280 (by omega) (by omega) _ _ ?_ ?_ x y (by omega) (by omega) <;> intro r k <;> pointwise
  case piece3 =>
    rw [eq3, keq3]
    refine next x0 x1 x2 x3 x4 x5 x6 768 1024 (by omega) (by omega) _ _ ?_ ?_ x y (by omega) (by omega) <;> intro r k <;> pointwise
  case piece4 =>
    rw [eq4]
    refine next x0 x1 x2 x3 x4 x5 x6 512 768 (by omega) (by omega) _ _ ?_ ?_ x y (by omega) (by omega) <;> intro r k <;> pointwise
  case piece5 =>
    rw [eq5]
    refine next x0 x1 x2 x3 x4 x5 x6 256 512 (by omega) (by omega) _ _ ?_ ?_ x y (by omega) (by omega) <;> intro r k <;> pointwise
  case piece6 =>
    rw [keq6]
    refine next x0 x1 x2 x3 x4 x5 x6 0 256 (by omega) (by omega) _ _ ?_ ?_ x y (by omega) (by omega) <;> intro r k <;> pointwise

end Cert.UpIdeal.Value

end
-- ==== Proof.TailPiece.lean ====
/- One piece of the up projection: 256 rows of the convolved product and its gate. -/
module

public import proofs.«01_k».proof.Proof.Gen.TailIdeal.Frame
public import proofs.«01_k».proof.Proof.UpPiece

@[expose] public section

set_option maxRecDepth 16384

noncomputable section

namespace Cert.TailIdeal.Value

open Cert.TailIdeal Cert.TailIdeal.Gen Idealize.ShloMosaic Idealize.ShloMosaic.TcCoe Idealize.SL.Sem
open Cert.UpIdeal.Value (lin cv act tap)

variable (x0 : FVec Ideal S2048x4096 .bf16) (x1 x2 : FVec Ideal S4096x256 .bf16) (x3 x4 : FVec Ideal S3x256 .f32)
  (x5 x6 : FVec Ideal S1x256 .f32)

/-- A piece of 256 rows from row `b`, from the rows kept of the piece before it and its own. -/
theorem piece (b : ℕ) (hb : b + 256 ≤ 2048) (prev : FVec Ideal S8x512 .f32) (cur : FVec Ideal S256x4096 .bf16)
    (hcur : ∀ (r : Fin 256) (k : Fin 4096), cur (ix2 r k) = x0 (ix2 ⟨b + r, by omega⟩ k))
    (hg : ∀ (q : Fin 8) (c : Fin 256), 6 ≤ (q : ℕ) →
      prev (ix2 q ⟨c, by omega⟩) = if 8 ≤ b + q then lin x0 x1 (b + q - 8) c else 0)
    (hv : ∀ (q : Fin 8) (c : Fin 256), 6 ≤ (q : ℕ) →
      prev (ix2 q ⟨256 + c, by omega⟩) = if 8 ≤ b + q then lin x0 x2 (b + q - 8) c else 0)
    (r c : Fin 256) :
    k2_pay14 (F := Ideal) (k2_pay2 x1 x2) (k2_pay3 x3 x4) (k2_pay4 x5 x6) prev cur (ix2 r c)
      = act (cv x0 x1 x3 x5 (b + r) c) (cv x0 x2 x4 x6 (b + r) c) := by
  pointwise [k2_pay14, k2_pay12, k2_pay2, k2_pay3, k2_pay4, hcur]
  have g2 := tap x0 x1 (fun q => prev (ix2 q ⟨c, by omega⟩)) 2 b (by decide) (by decide) hb r c fun q hq => hg q c hq
  have g1 := tap x0 x1 (fun q => prev (ix2 q ⟨c, by omega⟩)) 1 b (by decide) (by decide) hb r c fun q hq => hg q c hq
  have v2 := tap x0 x2 (fun q => prev (ix2 q ⟨256 + c, by omega⟩)) 2 b (by decide) (by decide) hb r c fun q hq => hv q c hq
  have v1 := tap x0 x2 (fun q => prev (ix2 q ⟨256 + c, by omega⟩)) 1 b (by decide) (by decide) hb r c fun q hq => hv q c hq
  have l1 : lin x0 x1 (b + r) c = ∑ x, x0 (ix2 ⟨b + r, by omega⟩ x) * x1 (ix2 x c) := dif_pos (by omega)
  have l2 : lin x0 x2 (b + r) c = ∑ x, x0 (ix2 ⟨b + r, by omega⟩ x) * x2 (ix2 x c) := dif_pos (by omega)
  beta_reduce at g2 g1 v2 v1
  rw [g2, g1, v2, v1, ← l1, ← l2]
  rfl

/-- The rows kept of a piece that starts at row `b`. -/
theorem kept (b : ℕ) (hb : b + 256 ≤ 2048) (cur : FVec Ideal S256x4096 .bf16)
    (hcur : ∀ (r : Fin 256) (k : Fin 4096), cur (ix2 r k) = x0 (ix2 ⟨b + r, by omega⟩ k)) (q : Fin 8) (c : Fin 256) :
    k2_pay13 (F := Ideal) (k2_pay2 x1 x2) cur (ix2 q ⟨c, by omega⟩)
        = (if 8 ≤ b + 256 + q then lin x0 x1 (b + 256 + q - 8) c else 0) ∧
      k2_pay13 (F := Ideal) (k2_pay2 x1 x2) cur (ix2 q ⟨256 + c, by omega⟩)
        = (if 8 ≤ b + 256 + q then lin x0 x2 (b + 256 + q - 8) c else 0) := by
  have e : b + 256 + (q : ℕ) - 8 = b + (248 + q) := by omega
  rw [if_pos (by omega), if_pos (by omega), e, lin, lin, dif_pos (by omega), dif_pos (by omega)]
  constructor <;> pointwise [k2_pay13, k2_pay12, k2_pay2, hcur]

/-- A piece read at the row and column of the block where it is stored. -/
theorem piece_at (b : ℕ) (hb : b + 256 ≤ 2048) (prev : FVec Ideal S8x512 .f32) (cur : FVec Ideal S256x4096 .bf16)
    (hcur : ∀ (r : Fin 256) (k : Fin 4096), cur (ix2 r k) = x0 (ix2 ⟨b + r, by omega⟩ k))
    (hk : ∀ (q : Fin 8) (c : Fin 256), 6 ≤ (q : ℕ) →
      prev (ix2 q ⟨c, by omega⟩) = (if 8 ≤ b + q then lin x0 x1 (b + q - 8) c else 0) ∧
      prev (ix2 q ⟨256 + c, by omega⟩) = (if 8 ≤ b + q then lin x0 x2 (b + q - 8) c else 0))
    (x : S256x256.Idx) (y : S2048x256.Idx) (h0 : (y 0 : ℕ) = b + x 0) (h1 : (y 1 : ℕ) = x 1) :
    k2_pay14 (F := Ideal) (k2_pay2 x1 x2) (k2_pay3 x3 x4) (k2_pay4 x5 x6) prev cur x
      = act (cv x0 x1 x3 x5 (y 0) (y 1)) (cv x0 x2 x4 x6 (y 0) (y 1)) := by
  have hy : y 1 = x 1 := Fin.ext h1
  rw [h0, hy, eq_ix2 x]
  exact piece x0 x1 x2 x3 x4 x5 x6 b hb prev cur hcur (fun q c hq => (hk q c hq).1) (fun q c hq => (hk q c hq).2) (x 0) (x 1)

/-- A piece after the first: the rows kept are those of the piece before it. -/
theorem next (b b' : ℕ) (e : b' = b + 256) (hb : b' + 256 ≤ 2048) (bef cur : FVec Ideal S256x4096 .bf16)
    (hbef : ∀ (r : Fin 256) (k : Fin 4096), bef (ix2 r k) = x0 (ix2 ⟨b + r, by omega⟩ k))
    (hcur : ∀ (r : Fin 256) (k : Fin 4096), cur (ix2 r k) = x0 (ix2 ⟨b' + r, by omega⟩ k))
    (x : S256x256.Idx) (y : S2048x256.Idx) (h0 : (y 0 : ℕ) = b' + x 0) (h1 : (y 1 : ℕ) = x 1) :
    k2_pay14 (F := Ideal) (k2_pay2 x1 x2) (k2_pay3 x3 x4) (k2_pay4 x5 x6) (k2_pay13 (k2_pay2 x1 x2) bef) cur x
      = act (cv x0 x1 x3 x5 (y 0) (y 1)) (cv x0 x2 x4 x6 (y 0) (y 1)) := by
  subst e
  exact piece_at x0 x1 x2 x3 x4 x5 x6 (b + 256) (by omega) _ cur hcur
    (fun q c _ => kept x0 x1 x2 b (by omega) bef hbef q c) x y h0 h1

section
variable (v4 : FVec Ideal S4096x512 .bf16) (v7 : FVec Ideal S3x512 .f32) (v12 : FVec Ideal S1x512 .f32)
  (p : FVec Ideal S8x512 .f32) (a b : FVec Ideal S256x4096 .bf16)

/- The eight pieces are the same lines: each is read as the second one. -/

theorem eq0 : k2_pay1 v7 v12 (k2_pay32 v4 b) (k2_pay33 v4 a b) (k2_pay34 v7)
    = k2_pay14 v4 v7 v12 (k2_pay13 v4 a) b := rfl
theorem eq1 : k2_pay31 v4 v7 v12 p b = k2_pay14 v4 v7 v12 p b := rfl
theorem eq2 : k2_pay29 (k2_pay28 v4 v7 v12 p b) = k2_pay14 v4 v7 v12 p b := rfl
theorem eq3 : k2_pay25 (k2_pay24 v4 v7 v12 p b) = k2_pay14 v4 v7 v12 p b := rfl
theorem eq4 : k2_pay21 v7 (k2_pay18 v4 a b) (k2_pay20 v4 v7 v12 b)
    = k2_pay14 v4 v7 v12 (k2_pay13 v4 a) b := rfl
theorem eq5 : k2_pay16 v4 v7 v12 p b = k2_pay14 v4 v7 v12 p b := rfl
theorem eq7 : k2_pay11 (F := Ideal) (k2_pay8 (F := Ideal) x1 x2 x3 x4 x5 x6 b) (k2_pay9 (F := Ideal) x1 x2 x3 x4 x5 x6 b) (k2_pay10 (F := Ideal))
    = k2_pay14 (F := Ideal) (k2_pay2 x1 x2) (k2_pay3 x3 x4) (k2_pay4 x5 x6) (broadcast S8x512 (Scalar.ofBits .f32 0x00000000#32)) b := rfl
theorem keq1 : k2_pay27 v4 a = k2_pay13 v4 a := rfl
theorem keq2 : k2_pay23 v4 a = k2_pay13 v4 a := rfl
theorem keq3 : k2_pay19 v4 a = k2_pay13 v4 a := rfl
theorem keq6 : k2_pay6 (F := Ideal) x1 x2 a = k2_pay13 (F := Ideal) (k2_pay2 x1 x2) a := rfl

end

/-- What a point leaves in its block of the output. -/
theorem out_at (y : S2048x256.Idx) :
    out2_7 (F := Ideal) x0 x1 x2 x3 x4 x5 x6 y
      = act (cv x0 x1 x3 x5 (y 0) (y 1)) (cv x0 x2 x4 x6 (y 0) (y 1)) := by
  unfold_out out2_7
  frame_out
  canon_tiles x h
  case piece7 =>
    rw [eq7]
    refine piece_at x0 x1 x2 x3 x4 x5 x6 0 (by decide) _ _ ?_ ?_ x y (by omega) (by omega)
    · intro r k; pointwise
    · intro q c hq; pointwise
  case piece0 =>
    rw [eq0]
    refine next x0 x1 x2 x3 x4 x5 x6 1536 1792 (by omega) (by omega) _ _ ?_ ?_ x y (by omega) (by omega) <;> intro r k <;> pointwise
  case piece1 =>
    rw [eq1, keq1]
    refine next x0 x1 x2 x3 x4 x5 x6 1280 1536 (by omega) (by omega) _ _ ?_ ?_ x y (by omega) (by omega) <;> intro r k <;> pointwise
  case piece2 =>
    rw [eq2, keq2]
    refine next x0 x1 x2 x3 x4 x5 x6 1024 1280 (by omega) (by omega) _ _ ?_ ?_ x y (by omega) (by omega) <;> intro r k <;> pointwise
  case piece3 =>
    rw [eq3, keq3]
    refine next x0 x1 x2 x3 x4 x5 x6 768 1024 (by omega) (by omega) _ _ ?_ ?_ x y (by omega) (by omega) <;> intro r k <;> pointwise
  case piece4 =>
    rw [eq4]
    refine next x0 x1 x2 x3 x4 x5 x6 512 768 (by omega) (by omega) _ _ ?_ ?_ x y (by omega) (by omega) <;> intro r k <;> pointwise
  case piece5 =>
    rw [eq5]
    refine next x0 x1 x2 x3 x4 x5 x6 256 512 (by omega) (by omega) _ _ ?_ ?_ x y (by omega) (by omega) <;> intro r k <;> pointwise
  case piece6 =>
    rw [keq6]
    refine next x0 x1 x2 x3 x4 x5 x6 0 256 (by omega) (by omega) _ _ ?_ ?_ x y (by omega) (by omega) <;> intro r k <;> pointwise

end Cert.TailIdeal.Value

end
-- ==== Proof.UpValue.lean ====
/- The up projection, its convolution and its gate: pieces of 256 rows against the whole arrays. -/
module

public import proofs.«01_k».proof.Proof.UpPiece
public import proofs.«01_k».proof.Proof.Gen.UpRefIdeal.Read
public import Idealize.ShloMosaic.Lib.Claim

@[expose] public section

set_option maxRecDepth 16384

noncomputable section

namespace Cert.UpIdeal.Value

open Cert.UpIdeal Cert.UpIdeal.Gen Idealize.ShloMosaic Idealize.ShloMosaic.TcCoe Idealize.SL.Sem
open Idealize.ShloMosaic.Pipeline (Dat)
open Cert.UpRefIdeal.Read

/-- The convolution of width 3 at row `r`, over any rows `L`. -/
def conv3 (L : ℕ → EReal) (k0 k1 k2 b : EReal) (r : ℕ) : EReal :=
  b + L r * k2 + (if 2 ≤ r then L (r - 2) else 0) * k0 + (if 1 ≤ r then L (r - 1) else 0) * k1

section
variable (X : FVec Ideal S16384x4096 .bf16) (W : FVec Ideal S4096x22016 .f32) (K : FVec Ideal S3x22016 .f32)
  (B : FVec Ideal S22016 .f32)

/-- Row `r` of sequence `b` times column `c` of the weights. -/
def row (b : ℕ) (c : ℕ) (r : ℕ) : EReal :=
  if h : b * 2048 + r < 16384 ∧ c < 22016 then ∑ k : Fin 4096, X (ix2 ⟨b * 2048 + r, h.1⟩ k) * W (ix2 k ⟨c, h.2⟩) else 0

/-- A padded row of the reference. -/
theorem tapR (R : Fin 16384) (c n d : ℕ) (hc : c < 22016) (hd : d ≤ 2) (hn : n + d = (R : ℕ) % 2048 + 2)
    (z : EReal) (hz : z = 0) [Decidable ((R : ℕ) / 2048 < 8 ∧ (2 ≤ n ∧ n - 2 < 2048) ∧ c < 22016)] :
    (if h : (R : ℕ) / 2048 < 8 ∧ (2 ≤ n ∧ n - 2 < 2048) ∧ c < 22016 then
        ∑ x, X (ix2 ⟨(R : ℕ) / 2048 * 2048 + (n - 2), by omega⟩ x) * W (ix2 x ⟨c, hc⟩) else z)
      = if d ≤ (R : ℕ) % 2048 then row X W (R / 2048) c (R % 2048 - d) else 0 := by
  have hR := R.isLt
  by_cases h : d ≤ (R : ℕ) % 2048
  · rw [dif_pos (by omega), if_pos h, row, dif_pos (by omega)]
    refine Finset.sum_congr rfl fun x _ => ?_
    congr 3
    exact Fin.ext (by show (R : ℕ) / 2048 * 2048 + (n - 2) = R / 2048 * 2048 + (R % 2048 - d); omega)
  · rw [dif_neg (by omega), if_neg h, hz]

theorem tapR0 (R : Fin 16384) (c : ℕ) (hc : c < 22016) (z : EReal)
    [Decidable ((R : ℕ) / 2048 < 8 ∧ (R : ℕ) % 2048 < 2048 ∧ c < 22016)] :
    (if h : (R : ℕ) / 2048 < 8 ∧ (R : ℕ) % 2048 < 2048 ∧ c < 22016 then
        ∑ x, X (ix2 R x) * W (ix2 x ⟨c, hc⟩) else z) = row X W (R / 2048) c (R % 2048) := by
  have hR := R.isLt
  rw [dif_pos (by omega), row, dif_pos (by omega)]
  refine Finset.sum_congr rfl fun x _ => ?_
  congr 3
  exact Fin.ext (by show (R : ℕ) = R / 2048 * 2048 + R % 2048; omega)

/-- One channel of the reference's convolution. -/
theorem chan (R : Fin 16384) (c : ℕ) (hc : c < 22016) (k0 k1 k2 b z : EReal) (hz : z = 0)
    [Decidable ((R : ℕ) / 2048 < 8 ∧ (2 ≤ (R : ℕ) % 2048 ∧ (R : ℕ) % 2048 - 2 < 2048) ∧ c < 22016)]
    [Decidable ((R : ℕ) / 2048 < 8 ∧ (2 ≤ 1 + (R : ℕ) % 2048 ∧ 1 + (R : ℕ) % 2048 - 2 < 2048) ∧ c < 22016)]
    [Decidable ((R : ℕ) / 2048 < 8 ∧ (R : ℕ) % 2048 < 2048 ∧ c < 22016)] :
    b + (if h : (R : ℕ) / 2048 < 8 ∧ (2 ≤ (R : ℕ) % 2048 ∧ (R : ℕ) % 2048 - 2 < 2048) ∧ c < 22016 then
          ∑ x, X (ix2 ⟨(R : ℕ) / 2048 * 2048 + ((R : ℕ) % 2048 - 2), by omega⟩ x) * W (ix2 x ⟨c, hc⟩) else z) * k0
      + (if h : (R : ℕ) / 2048 < 8 ∧ (2 ≤ 1 + (R : ℕ) % 2048 ∧ 1 + (R : ℕ) % 2048 - 2 < 2048) ∧ c < 22016 then
          ∑ x, X (ix2 ⟨(R : ℕ) / 2048 * 2048 + (1 + (R : ℕ) % 2048 - 2), by omega⟩ x) * W (ix2 x ⟨c, hc⟩) else z) * k1
      + (if h : (R : ℕ) / 2048 < 8 ∧ (R : ℕ) % 2048 < 2048 ∧ c < 22016 then
          ∑ x, X (ix2 R x) * W (ix2 x ⟨c, hc⟩) else z) * k2
      = conv3 (row X W (R / 2048) c) k0 k1 k2 b (R % 2048) := by
  have hR := R.isLt
  have e2 := tapR X W R c ((R : ℕ) % 2048) 2 hc (by decide) (by omega) z hz
  have e1 := tapR X W R c (1 + (R : ℕ) % 2048) 1 hc (by decide) (by omega) z hz
  have e0 := tapR0 X W R c hc z
  rw [e2, e1, e0, conv3]
  ac_rfl

/-- The padding's zero. -/
theorem zero_word : (FloatOps.sitofp (F := Ideal) .f32 (0#32) : EReal) = 0 := by
  show ((((0#32 : BitVec 32).toInt : ℤ) : ℝ) : EReal) = 0
  simp

attribute [irreducible] row conv3

/-- The reference's result at row `R` and column `C`. -/
theorem ref_at (R : Fin 16384) (C : Fin 11008) :
    val_main_v32 (F := Ideal) X W K B (ix2 R C)
      = act (conv3 (row X W (R / 2048) C) (K (ix2 0 ⟨C, by omega⟩)) (K (ix2 1 ⟨C, by omega⟩)) (K (ix2 2 ⟨C, by omega⟩))
            (B (ix1 ⟨C, by omega⟩)) (R % 2048))
          (conv3 (row X W (R / 2048) (11008 + C)) (K (ix2 0 ⟨11008 + C, by omega⟩)) (K (ix2 1 ⟨11008 + C, by omega⟩))
            (K (ix2 2 ⟨11008 + C, by omega⟩)) (B (ix1 ⟨11008 + C, by omega⟩)) (R % 2048)) := by
  pointwise [val_main_v0, val_main_v1, val_main_v2, val_main_c, val_main_call0_v0, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_call1_v0, val_main_call1_v1, val_main_call1_cst, val_main_call1_v2, val_main_call1_v3, val_main_call1_cst_0, val_main_call1_v4, val_main_call1_v5, val_main_v29, val_main_v30, val_main_v31, val_main_v32]
  refine Eq.trans (congrArg₂ (fun g v : EReal => g * Ideal.div 1 (1 + Ideal.exp (-g)) * v)
    (chan X W R C (by omega) _ _ _ _ _ zero_word) (chan X W R (11008 + C) (by omega) _ _ _ _ _ zero_word)) ?_
  simp only [act, zero_sub]

end

/-! ## The blocks of a point -/

variable (m : (ℓ : Loc nD τ sig) → Buf (Elt Ideal) ℓ)

/-- Where the blocks of each window sit at point `t`. -/
theorem idx : ∀ t : Fin cfg0.N, win0_0.index t = ![t.val / 43, 0] ∧ win0_1.index t = ![0, t.val % 43]
    ∧ win0_2.index t = ![0, t.val % 43 + 43] ∧ win0_3.index t = ![0, t.val % 43] ∧ win0_4.index t = ![0, t.val % 43 + 43]
    ∧ win0_5.index t = ![0, t.val % 43] ∧ win0_6.index t = ![0, t.val % 43 + 43]
    ∧ win0_7.index t = ![t.val / 43, t.val % 43] :=
  (by decide +kernel : ∀ t : Fin grid0.N, _)

theorem pt (t : Fin cfg0.N) : t.val < 344 := t.isLt

section
variable (c : Dev nD) (t : Fin cfg0.N)

theorem blk0 (r : Fin 2048) (k : Fin 4096) : iblk m c 0 t (ix2 r k)
    = m ((c : Thread nD τ).loc main_arg0) (ix2 ⟨t.val / 43 * 2048 + r, by have := pt t; omega⟩ k) := by
  blk_point [iblk, V, idx t]

theorem blk1 (k : Fin 4096) (l : Fin 256) : iblk m c 1 t (ix2 k l)
    = m ((c : Thread nD τ).loc main_arg1) (ix2 k ⟨t.val % 43 * 256 + l, by omega⟩) := by
  blk_point [iblk, V, idx t]

theorem blk2 (k : Fin 4096) (l : Fin 256) : iblk m c 2 t (ix2 k l)
    = m ((c : Thread nD τ).loc main_arg1) (ix2 k ⟨11008 + (t.val % 43 * 256 + l), by omega⟩) := by
  blk_point [iblk, V, idx t]

theorem blk3 (k : Fin 3) (l : Fin 256) : iblk m c 3 t (ix2 k l)
    = m ((c : Thread nD τ).loc main_arg2) (ix2 k ⟨t.val % 43 * 256 + l, by omega⟩) := by
  blk_point [iblk, V, idx t]

theorem blk4 (k : Fin 3) (l : Fin 256) : iblk m c 4 t (ix2 k l)
    = m ((c : Thread nD τ).loc main_arg2) (ix2 k ⟨11008 + (t.val % 43 * 256 + l), by omega⟩) := by
  blk_point [iblk, V, idx t]

theorem blk5 (l : Fin 256) : iblk m c 5 t (ix2 0 l)
    = m ((c : Thread nD τ).loc main_arg3) (ix1 ⟨t.val % 43 * 256 + l, by omega⟩) := by
  blk_point [iblk, V, idx t]

theorem blk6 (l : Fin 256) : iblk m c 6 t (ix2 0 l)
    = m ((c : Thread nD τ).loc main_arg3) (ix1 ⟨11008 + (t.val % 43 * 256 + l), by omega⟩) := by
  blk_point [iblk, V, idx t]

/-- A channel of a point's block is the channel of the whole arrays. -/
theorem cv_at (X : FVec Ideal S16384x4096 .bf16) (W : FVec Ideal S4096x22016 .f32) (K : FVec Ideal S3x22016 .f32)
    (B : FVec Ideal S22016 .f32) (X' : FVec Ideal S2048x4096 .bf16) (W' : FVec Ideal S4096x256 .bf16)
    (K' : FVec Ideal S3x256 .f32) (B' : FVec Ideal S1x256 .f32) (b n : ℕ) (hb : b < 8) (hn : n < 22016) (l : Fin 256)
    (hX : ∀ (r : Fin 2048) (k : Fin 4096), X' (ix2 r k) = X (ix2 ⟨b * 2048 + r, by omega⟩ k))
    (hW : ∀ k : Fin 4096, W' (ix2 k l) = W (ix2 k ⟨n, hn⟩)) (hK : ∀ k : Fin 3, K' (ix2 k l) = K (ix2 k ⟨n, hn⟩))
    (hB : B' (ix2 0 l) = B (ix1 ⟨n, hn⟩)) (r : ℕ) (hr : r < 2048) :
    cv X' W' K' B' r l
      = conv3 (row X W b n) (K (ix2 0 ⟨n, hn⟩)) (K (ix2 1 ⟨n, hn⟩)) (K (ix2 2 ⟨n, hn⟩)) (B (ix1 ⟨n, hn⟩)) r := by
  have e : ∀ q : ℕ, q < 2048 → lin X' W' q l = row X W b n q := by
    intro q hq
    unfold lin row
    rw [dif_pos hq, dif_pos ⟨by omega, hn⟩]
    exact Finset.sum_congr rfl fun k _ => congrArg₂ (· * ·) (hX ⟨q, hq⟩ k) (hW k)
  unfold cv conv3
  rw [hB, hK, hK, hK, e r hr, e (r - 2) (by omega), e (r - 1) (by omega)]

/-- What the body stores at `y` of its block is the reference at the index where `y` sits. -/
theorem point (y) : out0_7 (F := Ideal) (iblk m c 0 t) (iblk m c 1 t) (iblk m c 2 t) (iblk m c 3 t) (iblk m c 4 t)
      (iblk m c 5 t) (iblk m c 6 t) y
    = val_main_v32 (F := Ideal) (m ((c : Thread nD τ).loc main_arg0)) (m ((c : Thread nD τ).loc main_arg1))
        (m ((c : Thread nD τ).loc main_arg2)) (m ((c : Thread nD τ).loc main_arg3))
        (((cfg0.win 7).blk t).view.emb y) := by
  have ht := pt t
  idx_vars y
  have e : (((cfg0.win 7).blk t).view.emb (ix2 y0 y1))
      = ix2 (⟨t.val / 43 * 2048 + y0, by omega⟩ : Fin 16384) (⟨t.val % 43 * 256 + y1, by omega⟩ : Fin 11008) := by
    blk_ext [idx t]
  rw [e, ref_at, out_at]
  have h1 : (t.val / 43 * 2048 + (y0 : ℕ)) / 2048 = t.val / 43 := by omega
  have h2 : (t.val / 43 * 2048 + (y0 : ℕ)) % 2048 = y0 := by omega
  simp only [h1, h2]
  exact congrArg₂ act
    (cv_at _ _ _ _ _ _ _ _ _ _ (by omega) _ y1 (blk0 m c t) (fun k => blk1 m c t k y1) (fun k => blk3 m c t k y1)
      (blk5 m c t y1) y0 y0.isLt)
    (cv_at _ _ _ _ _ _ _ _ _ _ (by omega) _ y1 (blk0 m c t) (fun k => blk2 m c t k y1) (fun k => blk4 m c t k y1)
      (blk6 m c t y1) y0 y0.isLt)

end

/-- The kernel's result is the reference's term of the arguments. -/
theorem final (c : Dev nD) : (dats m 0 c).arrAt 7 cfg0.N
    = val_main_v32 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 7 _ (by decide +kernel) fun t _ y => ?_
  blk_simp
  rw [after0_7]
  exact point m c t y

end Cert.UpIdeal.Value

end
-- ==== Proof.TailUp.lean ====
/- The up projection, its convolution and its gate: pieces of 256 rows against the whole arrays. -/
module

public import proofs.«01_k».proof.Proof.TailPiece
public import proofs.«01_k».proof.Proof.UpValue
public import proofs.«01_k».proof.Proof.Gen.TailRefIdeal.Read
public import Idealize.ShloMosaic.Lib.Claim

@[expose] public section

set_option maxRecDepth 16384

noncomputable section

namespace Cert.TailIdeal.Value

open Cert.TailIdeal Cert.TailIdeal.Gen Idealize.ShloMosaic Idealize.ShloMosaic.TcCoe Idealize.SL.Sem
open Idealize.ShloMosaic.Pipeline (Dat)
open Cert.TailRefIdeal.Read
open Cert.UpIdeal.Value (lin cv act conv3 row chan zero_word cv_at)

attribute [local irreducible] val_main_v16

section
variable (x0 x1 : FVec Ideal S16384x2048 .bf16) (x2 : FVec Ideal S4096x4096 .f32) (x3 : FVec Ideal S16384x4096 .f32)
  (x4 : FVec Ideal S4096 .f32) (W : FVec Ideal S4096x22016 .f32) (K : FVec Ideal S3x22016 .f32) (B : FVec Ideal S22016 .f32)

set_option maxHeartbeats 1000000 in
/-- The reference's gated rows at row `R` and column `C`. -/
theorem ref_at (X : FVec Ideal S16384x4096 .bf16) (hX : X = val_main_v16 (F := Ideal) x0 x1 x2 x3 x4)
    (R : Fin 16384) (C : Fin 11008) :
    val_main_v47 (F := Ideal) x0 x1 x2 x3 x4 W K B (ix2 R C)
      = act (conv3 (row X W (R / 2048) C) (K (ix2 0 ⟨C, by omega⟩)) (K (ix2 1 ⟨C, by omega⟩)) (K (ix2 2 ⟨C, by omega⟩))
            (B (ix1 ⟨C, by omega⟩)) (R % 2048))
          (conv3 (row X W (R / 2048) (11008 + C)) (K (ix2 0 ⟨11008 + C, by omega⟩)) (K (ix2 1 ⟨11008 + C, by omega⟩))
            (K (ix2 2 ⟨11008 + C, by omega⟩)) (B (ix1 ⟨11008 + C, by omega⟩)) (R % 2048)) := by
  pointwise [val_main_v17, val_main_v18, val_main_c, val_main_call0_v0, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_call1_v0, val_main_call1_v1, val_main_call1_cst, val_main_call1_v2, val_main_call1_v3, val_main_call1_cst_0, val_main_call1_v4, val_main_call1_v5]
  subst hX
  refine Eq.trans (congrArg₂ (fun g v : EReal => g * Ideal.div 1 (1 + Ideal.exp (-g)) * v)
    (chan (val_main_v16 (F := Ideal) x0 x1 x2 x3 x4) W R C (by omega) _ _ _ _ _ zero_word)
    (chan (val_main_v16 (F := Ideal) x0 x1 x2 x3 x4) W R (11008 + C) (by omega) _ _ _ _ _ zero_word)) ?_
  simp only [act, zero_sub]

end

/-! ## The blocks of a point -/

variable (V : (c : Dev nD) → (b : Ref sig .tc) → Buf (Elt Ideal) ((c : Thread nD τ).loc b))

/-- Where the blocks of each window sit at point `t`. -/
theorem idx2 : ∀ t : Fin cfg2.N, win2_0.index t = ![t.val / 43, 0] ∧ win2_1.index t = ![0, t.val % 43]
    ∧ win2_2.index t = ![0, t.val % 43 + 43] ∧ win2_3.index t = ![0, t.val % 43] ∧ win2_4.index t = ![0, t.val % 43 + 43]
    ∧ win2_5.index t = ![0, t.val % 43] ∧ win2_6.index t = ![0, t.val % 43 + 43]
    ∧ win2_7.index t = ![t.val / 43, t.val % 43] :=
  (by decide +kernel : ∀ t : Fin grid2.N, _)

theorem pt (t : Fin cfg2.N) : t.val < 344 := t.isLt

section
variable (c : Dev nD) (t : Fin cfg2.N)

theorem blk0 (r : Fin 2048) (k : Fin 4096) : iblk2 V c 0 t (ix2 r k)
    = V c main_v3 (ix2 ⟨t.val / 43 * 2048 + r, by have := pt t; omega⟩ k) := by
  blk_point [iblk2, idx2 t]

theorem blk1 (k : Fin 4096) (l : Fin 256) : iblk2 V c 1 t (ix2 k l)
    = V c main_v4 (ix2 k ⟨t.val % 43 * 256 + l, by omega⟩) := by
  blk_point [iblk2, idx2 t]

theorem blk2 (k : Fin 4096) (l : Fin 256) : iblk2 V c 2 t (ix2 k l)
    = V c main_v4 (ix2 k ⟨11008 + (t.val % 43 * 256 + l), by omega⟩) := by
  blk_point [iblk2, idx2 t]

theorem blk3 (k : Fin 3) (l : Fin 256) : iblk2 V c 3 t (ix2 k l)
    = V c main_arg6 (ix2 k ⟨t.val % 43 * 256 + l, by omega⟩) := by
  blk_point [iblk2, idx2 t]

theorem blk4 (k : Fin 3) (l : Fin 256) : iblk2 V c 4 t (ix2 k l)
    = V c main_arg6 (ix2 k ⟨11008 + (t.val % 43 * 256 + l), by omega⟩) := by
  blk_point [iblk2, idx2 t]

theorem blk5 (l : Fin 256) : iblk2 V c 5 t (ix2 0 l)
    = V c main_v5 (ix2 0 ⟨t.val % 43 * 256 + l, by omega⟩) := by
  blk_point [iblk2, idx2 t]

theorem blk6 (l : Fin 256) : iblk2 V c 6 t (ix2 0 l)
    = V c main_v5 (ix2 0 ⟨11008 + (t.val % 43 * 256 + l), by omega⟩) := by
  blk_point [iblk2, idx2 t]

end

variable (x0 x1 : FVec Ideal S16384x2048 .bf16) (x2 : FVec Ideal S4096x4096 .f32) (x3 : FVec Ideal S16384x4096 .f32)
  (x4 : FVec Ideal S4096 .f32) (x5 : FVec Ideal S4096x22016 .f32) (x6 : FVec Ideal S3x22016 .f32) (x7 : FVec Ideal S22016 .f32)

/-- What the third launch's body stores at `y` of its block is the reference at the index where `y` sits. -/
theorem point2 (c : Dev nD) (hx : V c main_v3 = val_main_v16 (F := Ideal) x0 x1 x2 x3 x4) (hw : V c main_v4 = x5)
    (hk : V c main_arg6 = x6) (hb : ∀ j : Fin 22016, V c main_v5 (ix2 0 j) = x7 (ix1 j)) (t : Fin cfg2.N) (y) :
    out2_7 (F := Ideal) (iblk2 V c 0 t) (iblk2 V c 1 t) (iblk2 V c 2 t) (iblk2 V c 3 t) (iblk2 V c 4 t)
      (iblk2 V c 5 t) (iblk2 V c 6 t) y
    = val_main_v47 (F := Ideal) x0 x1 x2 x3 x4 x5 x6 x7 (((cfg2.win 7).blk t).view.emb y) := by
  have ht := pt t
  idx_vars y
  have e : (((cfg2.win 7).blk t).view.emb (ix2 y0 y1))
      = ix2 (⟨t.val / 43 * 2048 + y0, by omega⟩ : Fin 16384) (⟨t.val % 43 * 256 + y1, by omega⟩ : Fin 11008) := by
    blk_ext [idx2 t]
  rw [e, ref_at x0 x1 x2 x3 x4 x5 x6 x7 _ hx, out_at]
  have h1 : (t.val / 43 * 2048 + (y0 : ℕ)) / 2048 = t.val / 43 := by omega
  have h2 : (t.val / 43 * 2048 + (y0 : ℕ)) % 2048 = y0 := by omega
  simp only [h1, h2]
  exact congrArg₂ act
    (cv_at _ _ _ _ _ _ _ _ _ _ (by omega) _ y1 (blk0 V c t) (fun k => (blk1 V c t k y1).trans (congrFun hw _))
      (fun k => (blk3 V c t k y1).trans (congrFun hk _)) ((blk5 V c t y1).trans (hb _)) y0 y0.isLt)
    (cv_at _ _ _ _ _ _ _ _ _ _ (by omega) _ y1 (blk0 V c t) (fun k => (blk2 V c t k y1).trans (congrFun hw _))
      (fun k => (blk4 V c t k y1).trans (congrFun hk _)) ((blk6 V c t y1).trans (hb _)) y0 y0.isLt)

/-- What the third launch leaves: the gated rows. -/
theorem launch2_eq (c : Dev nD) (hx : V c main_v3 = val_main_v16 (F := Ideal) x0 x1 x2 x3 x4) (hw : V c main_v4 = x5)
    (hk : V c main_arg6 = x6) (hb : ∀ j : Fin 22016, V c main_v5 (ix2 0 j) = x7 (ix1 j)) :
    (dat2 V c).arrAt 7 cfg2.N = val_main_v47 (F := Ideal) x0 x1 x2 x3 x4 x5 x6 x7 := by
  refine (dat2 V c).arrAt_eq_of_covers 7 _ (by decide +kernel) fun t _ y => ?_
  blk_simp
  rw [after2_7]
  exact point2 V x0 x1 x2 x3 x4 x5 x6 x7 c hx hw hk hb t y

end Cert.TailIdeal.Value

end
-- ==== Proof.TailDown.lean ====
/- The down projection of the joined program with its residual, tile by tile, against one product. -/
module

public import proofs.«01_k».proof.Proof.Gen.TailIdeal.Frame
public import proofs.«01_k».proof.Proof.Gen.TailRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.TailIdeal.Value

open Cert.TailIdeal Cert.TailIdeal.Gen Idealize.ShloMosaic Idealize.ShloMosaic.TcCoe Idealize.SL.Sem
open Idealize.ShloMosaic.Pipeline (Dat)
open Cert.TailRefIdeal.Read

variable (V : (c : Dev nD) → (b : Ref sig .tc) → Buf (Elt Ideal) ((c : Thread nD τ).loc b))

attribute [local irreducible] val_main_v3 val_main_v47

/-- Where the blocks of each window of the fourth launch sit at point `t`. -/
theorem idx3 : ∀ t : Fin cfg3.N, win3_0.index t = ![t.val % 64, 0] ∧ win3_1.index t = ![0, t.val / 64] ∧ win3_2.index t = ![t.val % 64, t.val / 64] ∧ win3_3.index t = ![t.val % 64, t.val / 64] :=
  (by decide +kernel : ∀ t : Fin grid3.N, _)

variable (x0 x1 : FVec Ideal S16384x2048 .bf16) (x2 : FVec Ideal S4096x4096 .f32) (x3 : FVec Ideal S16384x4096 .f32)
  (x4 : FVec Ideal S4096 .f32) (x5 : FVec Ideal S4096x22016 .f32) (x6 : FVec Ideal S3x22016 .f32) (x7 : FVec Ideal S22016 .f32)
  (x8 : FVec Ideal S11008x4096 .f32)

/-- What the body stores at `y` of its block is the reference at the index where `y` sits. -/
theorem point3 (c : Dev nD) (ha : V c main_v6 = val_main_v47 (F := Ideal) x0 x1 x2 x3 x4 x5 x6 x7) (hw : V c main_v7 = x8)
    (hh : V c main_v1 = val_main_v3 (F := Ideal) x0 x1 x2 x3) (t : Fin cfg3.N) (y) :
    k3_pay1 (iblk3 V c 2 t) (iblk3 V c 0 t) (iblk3 V c 1 t) y
      = val_main_v49 (F := Ideal) x0 x1 x2 x3 x4 x5 x6 x7 x8 (((cfg3.win 3).blk t).view.emb y) := by
  pointwise [k3_pay1, val_main_v48, val_main_v49]
  rw [← ha, ← hh, ← hw]
  blk_point [iblk3, idx3 t]

/-- What the fourth launch leaves: the residual stream after the gated rows. -/
theorem launch3_eq (c : Dev nD) (ha : V c main_v6 = val_main_v47 (F := Ideal) x0 x1 x2 x3 x4 x5 x6 x7) (hw : V c main_v7 = x8)
    (hh : V c main_v1 = val_main_v3 (F := Ideal) x0 x1 x2 x3) :
    (dat3 V c).arrAt 3 cfg3.N = val_main_v49 (F := Ideal) x0 x1 x2 x3 x4 x5 x6 x7 x8 := by
  refine (dat3 V c).arrAt_eq_of_covers 3 _ (by decide +kernel) fun t _ y => ?_
  blk_simp
  rw [after3_3]; frame_out
  exact point3 V x0 x1 x2 x3 x4 x5 x6 x7 x8 c ha hw hh t y

end Cert.TailIdeal.Value

end
-- ==== Proof.TailValue.lean ====
/- The joined program: what each launch finds and leaves, and the result against the reference's. -/
module

public import proofs.«01_k».proof.Proof.TailOut
public import proofs.«01_k».proof.Proof.TailNorm
public import proofs.«01_k».proof.Proof.TailUp
public import proofs.«01_k».proof.Proof.TailDown

@[expose] public section

set_option maxRecDepth 16384

noncomputable section

namespace Cert.TailIdeal.Value

open Cert.TailIdeal Cert.TailIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TailRefIdeal.Read

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result ends at the last boundary's contents and the arguments as they were. -/
theorem run : θ_run defs (onTc (τ := τ) (main (F := F))) ⟨m, fun _ => 0, ρ⟩ (fun r => ∀ c : Dev nD,
      r.2.mem ((c.tc : Thread nD τ).loc main_v10) = W10 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c =>
      ⟨h c _ (mem_uc main_v10 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end

section
variable (m : (ℓ : Loc nD τ sig) → Buf (Elt Ideal) ℓ) (ρ : Dev nD → PrngReg) (c : Dev nD)

/-- A vector read as one row. -/
theorem row_at (x : FVec Ideal S4096 .f32) (j : Fin 4096) :
    shapeCast S1x4096 x shapeCasts_S4096_S1x4096 (ix2 0 j) = x (ix1 j) := by
  pointwise

/-- A long vector read as one row. -/
theorem wide_at (x : FVec Ideal S22016 .f32) (j : Fin 22016) :
    shapeCast S1x22016 x shapeCasts_S22016_S1x22016 (ix2 0 j) = x (ix1 j) := by
  pointwise

/-- The output weights as the first launch reads them. -/
theorem V1_v0 : V1 m ρ c main_v0 = m ((c : Thread nD τ).loc main_arg2) := by
  show StableHlo.after hostOps0 (W0 m ρ c) (Proc.devRef .tc main_v0) = _
  after_results; try rfl

/-- The residual stream after the first launch. -/
theorem W2_v1 : W2 m ρ c (Proc.devRef .tc main_v1)
    = val_main_v3 (F := Ideal) (m ((c : Thread nD τ).loc main_arg0)) (m ((c : Thread nD τ).loc main_arg1))
        (m ((c : Thread nD τ).loc main_arg2)) (m ((c : Thread nD τ).loc main_arg3)) := by
  refine (W2_arr m ρ c 5).trans ((launch0_eq (V1 m ρ) c).trans ?_)
  rw [V1_v0 m ρ c, show V1 m ρ c main_arg0 = _ from W1_args m ρ c main_arg0 (by decide),
    show V1 m ρ c main_arg1 = _ from W1_args m ρ c main_arg1 (by decide),
    show V1 m ρ c main_arg3 = _ from W1_args m ρ c main_arg3 (by decide)]

/-- It is still there when the second launch reads it. -/
theorem V3_v1 : V3 m ρ c main_v1
    = val_main_v3 (F := Ideal) (m ((c : Thread nD τ).loc main_arg0)) (m ((c : Thread nD τ).loc main_arg1))
        (m ((c : Thread nD τ).loc main_arg2)) (m ((c : Thread nD τ).loc main_arg3)) :=
  (W3_of m ρ c main_v1 (by decide)).trans (W2_v1 m ρ c)

/-- The norm's weights as the second launch reads them. -/
theorem V3_v2 (j : Fin 4096) : V3 m ρ c main_v2 (ix2 0 j) = m ((c : Thread nD τ).loc main_arg4) (ix1 j) := by
  have e : V3 m ρ c main_v2 = shapeCast S1x4096 (m ((c : Thread nD τ).loc main_arg4)) shapeCasts_S4096_S1x4096 := by
    refine Eq.trans ?_ (congrArg (fun x => shapeCast S1x4096 x shapeCasts_S4096_S1x4096) (W2_args m ρ c main_arg4 (by decide)))
    show StableHlo.after hostOps1 (W2 m ρ c) (Proc.devRef .tc main_v2) = _
    after_results; try rfl
  rw [e]; exact row_at _ j

/-- The normed rows after the second launch. -/
theorem W4_v3 : W4 m ρ c (Proc.devRef .tc main_v3)
    = val_main_v16 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) :=
  (W4_arr m ρ c 2).trans (launch1_eq (V3 m ρ) _ _ _ _ _ c (V3_v1 m ρ c) (V3_v2 m ρ c))

/-- The up projection's weights as the third launch reads them. -/
theorem V5_v4 : V5 m ρ c main_v4 = m ((c : Thread nD τ).loc main_arg5) := by
  refine Eq.trans ?_ (W4_args m ρ c main_arg5 (by decide))
  show StableHlo.after hostOps2 (W4 m ρ c) (Proc.devRef .tc main_v4) = _
  after_results; try rfl

/-- The convolution's bias as the third launch reads it. -/
theorem V5_v5 (j : Fin 22016) : V5 m ρ c main_v5 (ix2 0 j) = m ((c : Thread nD τ).loc main_arg7) (ix1 j) := by
  have e : V5 m ρ c main_v5 = shapeCast S1x22016 (m ((c : Thread nD τ).loc main_arg7)) shapeCasts_S22016_S1x22016 := by
    refine Eq.trans ?_ (congrArg (fun x => shapeCast S1x22016 x shapeCasts_S22016_S1x22016) (W4_args m ρ c main_arg7 (by decide)))
    show StableHlo.after hostOps2 (W4 m ρ c) (Proc.devRef .tc main_v5) = _
    after_results; try rfl
  rw [e]; exact wide_at _ j

/-- The gated rows after the third launch. -/
theorem W6_v6 : W6 m ρ c (Proc.devRef .tc main_v6)
    = val_main_v47 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) :=
  (W6_arr m ρ c 7).trans (launch2_eq (V5 m ρ) _ _ _ _ _ _ _ _ c
    ((W5_of m ρ c main_v3 (by decide)).trans (W4_v3 m ρ c)) (V5_v4 m ρ c) (W5_args m ρ c main_arg6 (by decide))
    (V5_v5 m ρ c))

/-- The down projection's weights as the fourth launch reads them. -/
theorem V7_v7 : V7 m ρ c main_v7 = m ((c : Thread nD τ).loc main_arg8) := by
  refine Eq.trans ?_ (W6_args m ρ c main_arg8 (by decide))
  show StableHlo.after hostOps3 (W6 m ρ c) (Proc.devRef .tc main_v7) = _
  after_results; try rfl

/-- The residual stream is still there when the fourth launch reads it. -/
theorem V7_v1 : V7 m ρ c main_v1
    = val_main_v3 (F := Ideal) (m ((c : Thread nD τ).loc main_arg0)) (m ((c : Thread nD τ).loc main_arg1))
        (m ((c : Thread nD τ).loc main_arg2)) (m ((c : Thread nD τ).loc main_arg3)) :=
  (W7_of m ρ c main_v1 (by decide)).trans <| (W6_of m ρ c main_v1 (by decide +kernel)).trans <|
    (W5_of m ρ c main_v1 (by decide)).trans <| (W4_of m ρ c main_v1 (by decide +kernel)).trans (V3_v1 m ρ c)

/-- The residual stream after the fourth launch. -/
theorem W8_v8 : W8 m ρ c (Proc.devRef .tc main_v8)
    = val_main_v49 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) :=
  (W8_arr m ρ c 3).trans (launch3_eq (V7 m ρ) _ _ _ _ _ _ _ _ _ c
    ((W7_of m ρ c main_v6 (by decide)).trans (W6_v6 m ρ c)) (V7_v7 m ρ c) (V7_v1 m ρ c))

/-- The last norm's weights as the fifth launch reads them. -/
theorem V9_v9 (j : Fin 4096) : V9 m ρ c main_v9 (ix2 0 j) = m ((c : Thread nD τ).loc main_arg9) (ix1 j) := by
  have e : V9 m ρ c main_v9 = shapeCast S1x4096 (m ((c : Thread nD τ).loc main_arg9)) shapeCasts_S4096_S1x4096 := by
    refine Eq.trans ?_ (congrArg (fun x => shapeCast S1x4096 x shapeCasts_S4096_S1x4096) (W8_args m ρ c main_arg9 (by decide)))
    show StableHlo.after hostOps4 (W8 m ρ c) (Proc.devRef .tc main_v9) = _
    after_results; try rfl
  rw [e]; exact row_at _ j

/-- The program's result is the reference's term of the arguments. -/
theorem final : W10 m ρ c (Proc.devRef .tc main_v10)
    = val_main_v62 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) :=
  (W10_arr m ρ c 2).trans (launch4_eq (V9 m ρ) _ _ _ _ _ _ _ _ _ _ c
    ((W9_of m ρ c main_v8 (by decide)).trans (W8_v8 m ρ c)) (V9_v9 m ρ c))

end

end Cert.TailIdeal.Value

end
-- ==== Proof.InValue.lean ====
/- The input projection: tile by tile against one product. -/
module

public import proofs.«01_k».proof.Proof.Gen.InIdeal.Value
public import proofs.«01_k».proof.Proof.Gen.InRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.InIdeal.Value

open Cert.InIdeal Cert.InIdeal.Gen Idealize.ShloMosaic Idealize.ShloMosaic.TcCoe Idealize.SL.Sem
open Idealize.ShloMosaic.Pipeline (Dat)
open Cert.InRefIdeal.Read

variable (m : (ℓ : Loc nD τ sig) → Buf (Elt Ideal) ℓ)

/-- Where the blocks of each window sit at point `t`. -/
theorem idx : ∀ t : Fin cfg0.N, win0_0.index t = ![t.val / 12, 0] ∧ win0_1.index t = ![0, t.val % 12] ∧ win0_2.index t = ![t.val / 12, t.val % 12] :=
  (by decide +kernel : ∀ t : Fin grid0.N, _)

/-- What the body stores at `y` of its block is the reference at the index where `y` sits. -/
theorem point (c : Dev nD) (t : Fin cfg0.N) (y) : k0_pay1 (iblk m c 0 t) (iblk m c 1 t) y
    = val_main_v2 (F := Ideal) (m ((c : Thread nD τ).loc main_arg0)) (m ((c : Thread nD τ).loc main_arg1))
        (((cfg0.win 2).blk t).view.emb y) := by
  pointwise [k0_pay1, val_main_v0, val_main_v1, val_main_v2]
  blk_point [iblk, V, idx t]

/-- The kernel's result is the reference's term of the arguments. -/
theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InIdeal.Value

end
-- ==== Proof.OutValue.lean ====
/- The output projection with its residual: two products over halves of the rows, against one product of the joined row. -/
module

public import proofs.«01_k».proof.Proof.Gen.OutIdeal.Value
public import proofs.«01_k».proof.Proof.Gen.OutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)
open Cert.OutRefIdeal.Read

variable (m : (ℓ : Loc nD τ sig) → Buf (Elt Ideal) ℓ)

/-- Where the blocks of each window sit at point `t`. -/
theorem idx : ∀ t : Fin cfg0.N, win0_0.index t = ![t.val / 4, 0] ∧ win0_1.index t = ![t.val / 4, 0] ∧ win0_2.index t = ![0, t.val % 4] ∧ win0_3.index t = ![1, t.val % 4] ∧ win0_4.index t = ![t.val / 4, t.val % 4] ∧ win0_5.index t = ![t.val / 4, t.val % 4] :=
  (by decide +kernel : ∀ t : Fin grid0.N, _)

/-- What the body stores at `y` of its block is the reference at the index where `y` sits. -/
theorem point (c : Dev nD) (t : Fin cfg0.N) (y) : k0_pay1 (iblk m c 0 t) (iblk m c 2 t) (iblk m c 1 t) (iblk m c 3 t) (iblk m c 4 t) y
    = val_main_v3 (F := Ideal) (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay1, val_main_v0, val_main_v1, val_main_v2, val_main_v3]
  blk_point [iblk, V, idx t]

/-- The kernel's result is the reference's term of the arguments. -/
theorem final (c : Dev nD) : (dats m 0 c).arrAt 5 cfg0.N
    = val_main_v3 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

end Cert.OutIdeal.Value

end
-- ==== Proof.DownValue.lean ====
/- The down projection with its residual, tile by tile, against one product. -/
module

public import proofs.«01_k».proof.Proof.Gen.DownIdeal.Value
public import proofs.«01_k».proof.Proof.Gen.DownRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)
open Cert.DownRefIdeal.Read

variable (m : (ℓ : Loc nD τ sig) → Buf (Elt Ideal) ℓ)

/-- Where the blocks of each window sit at point `t`. -/
theorem idx : ∀ t : Fin cfg0.N, win0_0.index t = ![t.val % 64, 0] ∧ win0_1.index t = ![0, t.val / 64] ∧ win0_2.index t = ![t.val % 64, t.val / 64] ∧ win0_3.index t = ![t.val % 64, t.val / 64] :=
  (by decide +kernel : ∀ t : Fin grid0.N, _)

/-- What the body stores at `y` of its block is the reference at the index where `y` sits. -/
theorem point (c : Dev nD) (t : Fin cfg0.N) (y) : k0_pay1 (iblk m c 2 t) (iblk m c 0 t) (iblk m c 1 t) y
    = val_main_v2 (F := Ideal) (m ((c : Thread nD τ).loc main_arg0)) (m ((c : Thread nD τ).loc main_arg1)) (m ((c : Thread nD τ).loc main_arg2))
        (((cfg0.win 3).blk t).view.emb y) := by
  pointwise [k0_pay1, val_main_v0, val_main_v1, val_main_v2]
  blk_point [iblk, V, idx t]

/-- The kernel's result is the reference's term of the arguments. -/
theorem final (c : Dev nD) : (dats m 0 c).arrAt 3 cfg0.N
    = val_main_v2 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.DownIdeal.Value

end
-- ==== Proof.NormValue.lean ====
/- The norm before a projection: blocks of rows against the whole array. -/
module

public import proofs.«01_k».proof.Proof.Gen.NormIdeal.Value
public import proofs.«01_k».proof.Proof.Gen.NormRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.NormIdeal.Value

open Cert.NormIdeal Cert.NormIdeal.Gen Idealize.ShloMosaic Idealize.ShloMosaic.TcCoe Idealize.SL.Sem
open Idealize.ShloMosaic.Pipeline (Dat)
open Cert.NormRefIdeal.Read

variable (m : (ℓ : Loc nD τ sig) → Buf (Elt Ideal) ℓ)

/-- Where the blocks of each window sit at point `t`. -/
theorem idx : ∀ t : Fin cfg0.N, win0_0.index t = ![t.val, 0] ∧ win0_1.index t = ![0, 0] ∧ win0_2.index t = ![t.val, 0] :=
  (by decide +kernel : ∀ t : Fin grid0.N, _)

/-- What the body stores at `y` of its block is the reference at the index where `y` sits. -/
theorem point (c : Dev nD) (t : Fin cfg0.N) (y) : k0_pay1 (iblk m c 0 t) (iblk m c 1 t) y
    = val_main_v13 (F := Ideal) (m ((c : Thread nD τ).loc main_arg0)) (m ((c : Thread nD τ).loc main_arg1))
        (((cfg0.win 2).blk t).view.emb y) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, idx t]

/-- The kernel's result is the reference's term of the arguments. -/
theorem final (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Value

end
-- ==== Proof.FinValue.lean ====
/- The last norm: blocks of rows against the whole array. -/
module

public import proofs.«01_k».proof.Proof.Gen.FinIdeal.Value
public import proofs.«01_k».proof.Proof.Gen.FinRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FinIdeal.Value

open Cert.FinIdeal Cert.FinIdeal.Gen Idealize.ShloMosaic Idealize.ShloMosaic.TcCoe Idealize.SL.Sem
open Idealize.ShloMosaic.Pipeline (Dat)
open Cert.FinRefIdeal.Read

variable (m : (ℓ : Loc nD τ sig) → Buf (Elt Ideal) ℓ)

/-- Where the blocks of each window sit at point `t`. -/
theorem idx : ∀ t : Fin cfg0.N, win0_0.index t = ![t.val, 0] ∧ win0_1.index t = ![0, 0] ∧ win0_2.index t = ![t.val, 0] :=
  (by decide +kernel : ∀ t : Fin grid0.N, _)

/-- What the body stores at `y` of its block is the reference at the index where `y` sits. -/
theorem point (c : Dev nD) (t : Fin cfg0.N) (y) : k0_pay1 (iblk m c 0 t) (iblk m c 1 t) y
    = val_main_v12 (F := Ideal) (m ((c : Thread nD τ).loc main_arg0)) (m ((c : Thread nD τ).loc main_arg1))
        (((cfg0.win 2).blk t).view.emb y) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12]
  blk_point [iblk, V, idx t]

/-- The kernel's result is the reference's term of the arguments. -/
theorem final (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FinIdeal.Value

end
-- ==== Proof.lean ====
/- The claims of every program: the kernels' frames and the equality of each kernel with its reference. -/
module

public import proofs.«01_k».proof.Defs
public import proofs.«01_k».proof.Proof.Gen.Lru.Frame
public import proofs.«01_k».proof.Proof.Gen.LruIdeal.Frame
public import proofs.«01_k».proof.Proof.Gen.LruIdeal.Value
public import proofs.«01_k».proof.Proof.Gen.LruRefIdeal.Run
public import proofs.«01_k».proof.Proof.LruRun
public import proofs.«01_k».proof.Proof.LruValue
public import proofs.«01_k».proof.Proof.Gen.Head.Frame
public import proofs.«01_k».proof.Proof.Gen.HeadIdeal.Frame
public import proofs.«01_k».proof.Proof.Gen.HeadRefIdeal.Read
public import proofs.«01_k».proof.Proof.HeadValue
public import proofs.«01_k».proof.Proof.Gen.Tail.Frame
public import proofs.«01_k».proof.Proof.Gen.TailIdeal.Frame
public import proofs.«01_k».proof.Proof.Gen.TailRefIdeal.Read
public import proofs.«01_k».proof.Proof.TailValue
public import proofs.«01_k».proof.Proof.Gen.In.Frame
public import proofs.«01_k».proof.Proof.Gen.InIdeal.Frame
public import proofs.«01_k».proof.Proof.Gen.InIdeal.Value
public import proofs.«01_k».proof.Proof.Gen.InRefIdeal.Read
public import proofs.«01_k».proof.Proof.InValue
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Read
public import proofs.«01_k».proof.Proof.OutValue
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Read
public import proofs.«01_k».proof.Proof.UpValue
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Read
public import proofs.«01_k».proof.Proof.DownValue
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Read
public import proofs.«01_k».proof.Proof.NormValue
public import proofs.«01_k».proof.Proof.Gen.Fin.Frame
public import proofs.«01_k».proof.Proof.Gen.FinIdeal.Frame
public import proofs.«01_k».proof.Proof.Gen.FinIdeal.Value
public import proofs.«01_k».proof.Proof.Gen.FinRefIdeal.Read
public import proofs.«01_k».proof.Proof.FinValue
public import Idealize.ShloMosaic.Lib.Claim

@[expose] public section

set_option maxRecDepth 16384

noncomputable section

namespace Cert.Proof

open Idealize.ShloMosaic Idealize.ShloMosaic.TcCoe Idealize.SL.Sem

/-- The reference of `Lru` ends with its arguments as they were. -/
theorem frame_LruRefIdeal : Cert.quiescent_LruRefIdeal := fun m ρ _ =>
  (θ_run Cert.LruRefIdeal.defs _ _).mono (fun r h => ⟨fun c => (h c).2, sem_eq_zero_of_no_sems (by decide) r.2⟩)
    (Cert.LruRefIdeal.Value.run (F := Ideal) m ρ)

/-- `Lru` and its reference give the same result. -/
theorem algebraic_Lru : Cert.algebraic_LruIdeal_LruRefIdeal := by
  intro m g m' g' _ ha
  refine ⟨fun c => Cert.LruIdeal.Value.G9 m c, Cert.LruIdeal.Value.run (F := Ideal) m g, ?_⟩
  refine (θ_run _ _ _).mono (fun _ h c => ⟨(h c).1.trans ?_, (h c).2⟩)
    (Cert.LruRef.run m' g')
  obtain ⟨e0, e1, e2, e3, e4, e5, e6, e7, e8⟩ := ha c
  rw [Cert.LruRef.states, e0, e1, e2, e3, e4, e5, e6, e7, e8]
  exact (Cert.LruIdeal.Value.final m c).symm

/-- The reference of `Head` ends with its arguments as they were. -/
theorem frame_HeadRefIdeal : Cert.quiescent_HeadRefIdeal := fun m ρ _ =>
  (θ_run Cert.HeadRefIdeal.defs _ _).mono (fun r h => ⟨fun c => (h c).2, sem_eq_zero_of_no_sems (by decide) r.2⟩)
    (Cert.HeadRefIdeal.Value.run (F := Ideal) m ρ)

/-- `Head` and its reference give the same result. -/
theorem algebraic_Head : Cert.algebraic_HeadIdeal_HeadRefIdeal := by
  pair_intro
  · run_from Cert.HeadIdeal.Value.run m g
  · hlo_run
    exact (Cert.HeadIdeal.Value.final m g c).symm

/-- The reference of `Tail` ends with its arguments as they were. -/
theorem frame_TailRefIdeal : Cert.quiescent_TailRefIdeal := fun m ρ _ =>
  (θ_run Cert.TailRefIdeal.defs _ _).mono (fun r h => ⟨fun c => (h c).2, sem_eq_zero_of_no_sems (by decide) r.2⟩)
    (Cert.TailRefIdeal.Value.run (F := Ideal) m ρ)

/-- `Tail` and its reference give the same result. -/
theorem algebraic_Tail : Cert.algebraic_TailIdeal_TailRefIdeal := by
  pair_intro
  · run_from Cert.TailIdeal.Value.run m g
  · hlo_run
    exact (Cert.TailIdeal.Value.final m g c).symm

/-- The reference of `In` ends with its arguments as they were. -/
theorem frame_InRefIdeal : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- `In` and its reference give the same result. -/
theorem algebraic_In : Cert.algebraic_InIdeal_InRefIdeal := by
  pair_intro
  · run_from Cert.InIdeal.Gen.run_main m g
  · hlo_run
    exact (Cert.InIdeal.Value.final m c).symm

/-- The reference of `Out` ends with its arguments as they were. -/
theorem frame_OutRefIdeal : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- `Out` and its reference give the same result. -/
theorem algebraic_Out : Cert.algebraic_OutIdeal_OutRefIdeal := by
  pair_intro
  · run_from Cert.OutIdeal.Gen.run_main m g
  · hlo_run
    exact (Cert.OutIdeal.Value.final m c).symm

/-- The reference of `Up` ends with its arguments as they were. -/
theorem frame_UpRefIdeal : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- `Up` and its reference give the same result. -/
theorem algebraic_Up : Cert.algebraic_UpIdeal_UpRefIdeal := by
  pair_intro
  · run_from Cert.UpIdeal.Gen.run_main m g
  · hlo_run
    exact (Cert.UpIdeal.Value.final m c).symm

/-- The reference of `Down` ends with its arguments as they were. -/
theorem frame_DownRefIdeal : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- `Down` and its reference give the same result. -/
theorem algebraic_Down : Cert.algebraic_DownIdeal_DownRefIdeal := by
  pair_intro
  · run_from Cert.DownIdeal.Gen.run_main m g
  · hlo_run
    exact (Cert.DownIdeal.Value.final m c).symm

/-- The reference of `Norm` ends with its arguments as they were. -/
theorem frame_NormRefIdeal : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- `Norm` and its reference give the same result. -/
theorem algebraic_Norm : Cert.algebraic_NormIdeal_NormRefIdeal := by
  pair_intro
  · run_from Cert.NormIdeal.Gen.run_main m g
  · hlo_run
    exact (Cert.NormIdeal.Value.final m c).symm

/-- The reference of `Fin` ends with its arguments as they were. -/
theorem frame_FinRefIdeal : Cert.quiescent_FinRefIdeal := fun m ρ _ =>
  (θ_run Cert.FinRefIdeal.defs _ _).mono (fun r h => ⟨fun c => (h c).2, sem_eq_zero_of_no_sems (by decide) r.2⟩)
    (Cert.FinRefIdeal.Value.run (F := Ideal) m ρ)

/-- `Fin` and its reference give the same result. -/
theorem algebraic_Fin : Cert.algebraic_FinIdeal_FinRefIdeal := by
  pair_intro
  · run_from Cert.FinIdeal.Gen.run_main m g
  · hlo_run
    exact (Cert.FinIdeal.Value.final m c).symm

theorem claim : Cert.Claim :=
  ⟨Cert.Lru.Gen.facts,
   Cert.LruIdeal.Gen.facts,
   Cert.LruRefIdeal.Gen.facts,
   Cert.Head.Gen.facts,
   Cert.HeadIdeal.Gen.facts,
   Cert.HeadRefIdeal.Gen.facts,
   Cert.Tail.Gen.facts,
   Cert.TailIdeal.Gen.facts,
   Cert.TailRefIdeal.Gen.facts,
   Cert.In.Gen.facts,
   Cert.InIdeal.Gen.facts,
   Cert.InRefIdeal.Gen.facts,
   Cert.Out.Gen.facts,
   Cert.OutIdeal.Gen.facts,
   Cert.OutRefIdeal.Gen.facts,
   Cert.Up.Gen.facts,
   Cert.UpIdeal.Gen.facts,
   Cert.UpRefIdeal.Gen.facts,
   Cert.Down.Gen.facts,
   Cert.DownIdeal.Gen.facts,
   Cert.DownRefIdeal.Gen.facts,
   Cert.Norm.Gen.facts,
   Cert.NormIdeal.Gen.facts,
   Cert.NormRefIdeal.Gen.facts,
   Cert.Fin.Gen.facts,
   Cert.FinIdeal.Gen.facts,
   Cert.FinRefIdeal.Gen.facts,
   fun m ρ _ => Cert.Lru.Gen.frame m ρ,
   fun m ρ _ => Cert.LruIdeal.Gen.frame m ρ,
   frame_LruRefIdeal,
   fun m ρ _ => Cert.Head.Gen.frame m ρ,
   fun m ρ _ => Cert.HeadIdeal.Gen.frame m ρ,
   frame_HeadRefIdeal,
   fun m ρ _ => Cert.Tail.Gen.frame m ρ,
   fun m ρ _ => Cert.TailIdeal.Gen.frame m ρ,
   frame_TailRefIdeal,
   fun m ρ _ => Cert.In.Gen.frame m ρ,
   fun m ρ _ => Cert.InIdeal.Gen.frame m ρ,
   frame_InRefIdeal,
   fun m ρ _ => Cert.Out.Gen.frame m ρ,
   fun m ρ _ => Cert.OutIdeal.Gen.frame m ρ,
   frame_OutRefIdeal,
   fun m ρ _ => Cert.Up.Gen.frame m ρ,
   fun m ρ _ => Cert.UpIdeal.Gen.frame m ρ,
   frame_UpRefIdeal,
   fun m ρ _ => Cert.Down.Gen.frame m ρ,
   fun m ρ _ => Cert.DownIdeal.Gen.frame m ρ,
   frame_DownRefIdeal,
   fun m ρ _ => Cert.Norm.Gen.frame m ρ,
   fun m ρ _ => Cert.NormIdeal.Gen.frame m ρ,
   frame_NormRefIdeal,
   fun m ρ _ => Cert.Fin.Gen.frame m ρ,
   fun m ρ _ => Cert.FinIdeal.Gen.frame m ρ,
   frame_FinRefIdeal,
   trivial,
   algebraic_Lru,
   trivial,
   algebraic_Head,
   trivial,
   algebraic_Tail,
   trivial,
   algebraic_In,
   trivial,
   algebraic_Out,
   trivial,
   algebraic_Up,
   trivial,
   algebraic_Down,
   trivial,
   algebraic_Norm,
   trivial,
   algebraic_Fin⟩

end Cert.Proof

end
